-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x20 : Shape := ⟨2, ![1024, 20]⟩
abbrev S100000x32 : Shape := ⟨2, ![100000, 32]⟩
abbrev S640x128 : Shape := ⟨2, ![640, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S100000x32 .f32) (main_arg2 : FVec F S640x128 .f32) (main_arg3 : FVec F S128 .f32) (main_arg4 : FVec F S128x100000 .f32) (main_arg5 : FVec F S100000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Kernel.lean ====
abbrev S1024x20 : Shape := ⟨2, ![1024, 20]⟩
abbrev S100000x32 : Shape := ⟨2, ![100000, 32]⟩
abbrev S640x128 : Shape := ⟨2, ![640, 128]⟩
abbrev S128 : Shape := ⟨1, ![128]⟩
abbrev S128x100000 : Shape := ⟨2, ![128, 100000]⟩
abbrev S100000 : Shape := ⟨1, ![100000]⟩
abbrev S20480 : Shape := ⟨1, ![20480]⟩
abbrev S_ : Shape := ⟨0, ![]⟩
abbrev S100000x128 : Shape := ⟨2, ![100000, 128]⟩
abbrev S20480x128 : Shape := ⟨2, ![20480, 128]⟩
abbrev S640 : Shape := ⟨1, ![640]⟩
abbrev S128x128 : Shape := ⟨2, ![128, 128]⟩
abbrev S20480x32 : Shape := ⟨2, ![20480, 32]⟩
abbrev S1024x640 : Shape := ⟨2, ![1024, 640]⟩
abbrev S1x128 : Shape := ⟨2, ![1, 128]⟩
abbrev S128x1024 : Shape := ⟨2, ![128, 1024]⟩
abbrev S1024x128 : Shape := ⟨2, ![1024, 128]⟩
abbrev S100000x1 : Shape := ⟨2, ![100000, 1]⟩
abbrev S100000x1024 : Shape := ⟨2, ![100000, 1024]⟩
abbrev S4096x128 : Shape := ⟨2, ![4096, 128]⟩
abbrev S4096x1 : Shape := ⟨2, ![4096, 1]⟩
abbrev S4096x1024 : Shape := ⟨2, ![4096, 1024]⟩
abbrev S1024x100000 : Shape := ⟨2, ![1024, 100000]⟩

abbrev nBuf : Table → Nat
  | .hbm => 19
  | .local .tc .vmem => 11
  | .local .scVector .vmem => 2
  | _ => 0

abbrev bufTy : (tb : Table) → Fin (nBuf tb) → BufTy
  | .hbm, ⟨0, _⟩ => ⟨S1024x20, .i32⟩
  | .hbm, ⟨1, _⟩ => ⟨S100000x32, .f32⟩
  | .hbm, ⟨2, _⟩ => ⟨S640x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S20480, .i32⟩
  | .hbm, ⟨7, _⟩ => ⟨S_, .i32⟩
  | .hbm, ⟨8, _⟩ => ⟨S_, .f32⟩
  | .hbm, ⟨9, _⟩ => ⟨S100000x128, .f32⟩
  | .hbm, ⟨10, _⟩ => ⟨S20480x128, .f32⟩
  | .hbm, ⟨11, _⟩ => ⟨S20480x32, .f32⟩
  | .hbm, ⟨12, _⟩ => ⟨S1024x640, .f32⟩
  | .hbm, ⟨13, _⟩ => ⟨S1x128, .f32⟩
  | .hbm, ⟨14, _⟩ => ⟨S128x1024, .f32⟩
  | .hbm, ⟨15, _⟩ => ⟨S100000x128, .f32⟩
  | .hbm, ⟨16, _⟩ => ⟨S100000x1, .f32⟩
  | .hbm, ⟨17, _⟩ => ⟨S100000x1024, .f32⟩
  | .hbm, ⟨18, _⟩ => ⟨S1024x100000, .f32⟩
  | .local .tc .vmem, ⟨0, _⟩ => ⟨S1024x640, .f32⟩
  | .local .tc .vmem, ⟨1, _⟩ => ⟨S640x128, .f32⟩
  | .local .tc .vmem, ⟨2, _⟩ => ⟨S1x128, .f32⟩
  | .local .tc .vmem, ⟨3, _⟩ => ⟨S128x1024, .f32⟩
  | .local .tc .vmem, ⟨4, _⟩ => ⟨S128x1024, .f32⟩
  | .local .tc .vmem, ⟨5, _⟩ => ⟨S4096x128, .f32⟩
  | .local .tc .vmem, ⟨6, _⟩ => ⟨S4096x128, .f32⟩
  | .local .tc .vmem, ⟨7, _⟩ => ⟨S4096x1, .f32⟩
  | .local .tc .vmem, ⟨8, _⟩ => ⟨S4096x1, .f32⟩
  | .local .tc .vmem, ⟨9, _⟩ => ⟨S4096x1024, .f32⟩
  | .local .tc .vmem, ⟨10, _⟩ => ⟨S4096x1024, .f32⟩
  | .local .scVector .vmem, ⟨0, _⟩ => ⟨S640, .i32⟩
  | .local .scVector .vmem, ⟨1, _⟩ => ⟨S640x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v1_scv : Ref sig .scVector := ⟨.hbm, 9, rfl⟩
abbrev main_v0_scv : Ref sig .scVector := ⟨.hbm, 6, rfl⟩
abbrev main_v2_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_45_r1 : BitVec 32 := 0#32
  ![v2.toNat, 0]
abbrev grid1 : Pipeline.Grid := .none

abbrev stage1_0 : Fin 1 → Memref sig .tc .vmem S1024x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S640x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20 : Shape := ⟨2, ![1024, 20]⟩
abbrev S100000x32 : Shape := ⟨2, ![100000, 32]⟩
abbrev S640x128 : Shape := ⟨2, ![640, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x32 : Shape := ⟨3, ![1024, 20, 32]⟩
abbrev S1024x640 : Shape := ⟨2, ![1024, 640]⟩
abbrev S1024x128 : Shape := ⟨2, ![1024, 128]⟩
abbrev S1x128 : Shape := ⟨2, ![1, 128]⟩
abbrev S1024x100000 : Shape := ⟨2, ![1024, 100000]⟩
abbrev S1x100000 : Shape := ⟨2, ![1, 100000]⟩

abbrev nBuf : Space → Nat
  | .hbm => 41
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x32, .f32⟩
  | .hbm, ⟨2, _⟩ => ⟨S640x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S1024x20, .i32⟩
  | .hbm, ⟨8, _⟩ => ⟨S1024x20, .i1⟩
  | .hbm, ⟨9, _⟩ => ⟨S_, .i32⟩
  | .hbm, ⟨10, _⟩ => ⟨S1024x20, .i32⟩
  | .hbm, ⟨11, _⟩ => ⟨S1024x20, .i32⟩
  | .hbm, ⟨12, _⟩ => ⟨S1024x20, .i32⟩
  | .hbm, ⟨13, _⟩ => ⟨S1024x20x1, .i32⟩
  | .hbm, ⟨14, _⟩ => ⟨S1, .i32⟩
  | .hbm, ⟨15, _⟩ => ⟨S_, .i32⟩
  | .hbm, ⟨16, _⟩ => ⟨S1024x20x1, .i32⟩
  | .hbm, ⟨17, _⟩ => ⟨S1024x20x1, .i1⟩
  | .hbm, ⟨18, _⟩ => ⟨S1x1x1, .i32⟩
  | .hbm, ⟨19, _⟩ => ⟨S1024x20x1, .i32⟩
  | .hbm, ⟨20, _⟩ => ⟨S1024x20x1, .i1⟩
  | .hbm, ⟨21, _⟩ => ⟨S1024x20x1, .i1⟩
  | .hbm, ⟨22, _⟩ => ⟨S_, .i1⟩
  | .hbm, ⟨23, _⟩ => ⟨S1024x20, .i1⟩
  | .hbm, ⟨24, _⟩ => ⟨S1024x20x32, .f32⟩
  | .hbm, ⟨25, _⟩ => ⟨S1024x20x32, .i1⟩
  | .hbm, ⟨26, _⟩ => ⟨S_, .f32⟩
  | .hbm, ⟨27, _⟩ => ⟨S1024x20x32, .f32⟩
  | .hbm, ⟨28, _⟩ => ⟨S1024x20x32, .f32⟩
  | .hbm, ⟨29, _⟩ => ⟨S1024x640, .f32⟩
  | .hbm, ⟨30, _⟩ => ⟨S1024x128, .f32⟩
  | .hbm, ⟨31, _⟩ => ⟨S1x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x100000, .f32⟩
  | .hbm, ⟨38, _⟩ => ⟨S1x100000, .f32⟩
  | .hbm, ⟨39, _⟩ => ⟨S1024x100000, .f32⟩
  | .hbm, ⟨40, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.GatherBatch.lean ====
/-
  SEVERAL INDIRECT GATHERS OUTSTANDING ON ONE SEMAPHORE. The kernel starts five gathers on one DMA semaphore before it waits
  for any of them. Every row of every gather is a transfer of the same credit, so the five gathers together are one batch of
  (gathers × rows) transfers on the semaphore: a gather's issue spends the issue rights of its own rows, the waits that do not
  end the batch hand nothing back, and the last one hands back every row.
-/
module

public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL Idealize.SL.BI Idealize.SL.Sem Idealize.SL.ProofMode Idealize.SL.RA
open Idealize.SL.BI (sProp bigSep Storable)
open scoped Idealize.SL.BI
open Idealize.SL.BI.BIBase Idealize.SL.BI.Laws

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ}

local notation "𝕄" => MT nD τ sig Ix (Elt F) Name U Lvl

variable {sp : Space} {s₀ s si : Shape} {e : EltTy} {a : Nat}

/-- The place in the offset list of entry `j`. -/
abbrev entryAt {o : ℕ} (hn : si.numel = o) (j : Fin o) : si.Idx := si.rowMajor.symm (j.cast hn.symm)

/-- Row `j` of a payload. -/
abbrev rowPay (hg : s₀.Gathers a s) (W : s.Idx → Elt F e) (j : Fin (s.size hg.axis')) : (s.rowShape hg.axis').Idx → Elt F e :=
  fun i => W ((s.rowRect hg.axis' j).emb i)

/-- What row `j` of a gather hands back when it has landed: the destination's row holding the payload's row, the entry of the
    offset list it was read from, and its own piece of the source's share. -/
def rowDone (c : Thread nD τ) (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (W : s.Idx → Elt F e) (j : Fin (s.size hg.axis')) : sProp 𝕄 :=
  iprop(((dst.view.loc c ↦[(dst.view.slice (s.rowRect hg.axis' j)).set]{fullShare}
          ((dst.view.slice (s.rowRect hg.axis' j)).write (Elt F) fd (rowPay hg W j) Finset.univ))
      ∗ (offs.view.loc c ↦[{offs.view.emb (entryAt hn j)}]{qo} fo))
    ∗ (src.view.loc c ↦[src.view.set]{pieceOf q _ ho j} fs))

/-- A delivered row can be stored in the batch. -/
instance rowDone_storable (c : Thread nD τ) (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (W : s.Idx → Elt F e) (j : Fin (s.size hg.axis')) :
    Storable (upEmb : UEmb _ 𝕄) (rowDone c src dst hg offs hn ho q qo fs fd fo W j) := by
  unfold rowDone; infer_instance

/-- The list's entries are numbered one to one. -/
theorem entryAt_bijective {o : ℕ} (hn : si.numel = o) : Function.Bijective (entryAt hn) :=
  si.rowMajor.symm.bijective.comp (finCongr hn.symm).bijective

/-- Every row of a gather landed: the destination written whole with the payload, the source's share and the list's share whole
    again. -/
theorem rowDone_join (c : Thread nD τ) (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (W : s.Idx → Elt F e) :
    (bigSep Finset.univ fun j => rowDone c src dst hg offs hn ho q qo fs fd fo W j : sProp 𝕄)
      ⊢ iprop((dst.view.loc c ↦[dst.view.set]{fullShare} (dst.view.write (Elt F) fd W Finset.univ))
          ∗ (offs.view.loc c ↦[offs.view.set]{qo} fo) ∗ (src.view.loc c ↦[src.view.set]{q} fs)) := by
  unfold rowDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd (rowPay hg W) W fun _ _ => rfl) $$ Hrows
  isplitl [Hoffs]
  · iapply (Entails.of_eq (pointsTo_entries c offs.view (entryAt hn) (entryAt_bijective hn) qo fo).symm) $$ Hoffs
  iapply (Entails.of_eq (pointsTo_piecesOf (src.view.set) fs ho q).symm) $$ Hsrc

variable (EC : UEmb Counters (MT nD τ sig Ix (Elt F) Name U Lvl)) (𝒱 : Variants) (c : Thread nD τ) (bd : Option 𝒱.V)
variable {α : Type} {Q : α → sProp (MT nD τ sig Ix (Elt F) Name U Lvl)}

/-- A gather issued INTO A BATCH of `n` transfers of `N` units on its semaphore, its row `j` being the batch's transfer `t j`
    (which delivers what the row hands back, `hD`): from the batch's invariant, a share of the source, the destination, a share
    of the list whose words are all in range and the rows' issue rights, the tile goes on holding the credit of its rows. -/
theorem wp_gatherInBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n : ℕ} (N M : ℕ) (D : Fin n → sProp 𝕄) {γ : Fin n → ℕ} {γ₀ : ℕ} {κ : Name} (t : Fin (s.size hg.axis') → Fin n)
    (ho : 0 < s.size hg.axis')
    (hN : ∀ j, (dst.slice (s.rowRect hg.axis' j) (s.stride_rowRect hg.axis' j)).view.dmaCredit = N)
    (hM : s.size hg.axis' * N = M)
    (hin : ∀ x, (offs.view.read (Elt F) fo x).toNat < s₀.size hg.axis)
    (hD : ∀ j, rowDone c src dst hg offs hn ho q qo fs fd fo
      (gatherPayload hg (src.view.read (Elt F) fs) (rows (offs.view.read (Elt F) fo) hn hin)) j ⊢ D (t j)) :
    iprop(inv κ (Transfers.batchBody EC (c, SemLoc.dma sem) N D γ γ₀)
        ∗ (src.view.loc c ↦[src.view.set]{q} fs) ∗ (dst.view.loc c ↦[dst.view.set]{fullShare} fd)
        ∗ (offs.view.loc c ↦[offs.view.set]{qo} fo) ∗ bigSep Finset.univ (fun j : Fin (s.size hg.axis') => count EC (γ (t j)) 0))
      ⊢ iprop((cred (tallyAt (c, SemLoc.dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let W : s.Idx → Elt F e := gatherPayload hg (src.view.read (Elt F) fs) r
  have hsum : ∑ j, (dst.slice (s.rowRect hg.axis' j) (s.stride_rowRect hg.axis' j)).view.dmaCredit = M := by
    rw [Finset.sum_congr rfl fun j _ => hN j, Finset.sum_const, Finset.card_univ, Fintype.card_fin, smul_eq_mul, hM]
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  let w : (j : Fin (s.size hg.axis')) → (s.rowShape hg.axis').Idx → Elt F e := fun j i => src.view.read (Elt F) fs (hg.rowIdx (r j) i)
  have hW : ∀ j, w j = rowPay hg W j := fun j => by
    funext i
    change _ = gatherPayload hg _ r _
    unfold gatherPayload; rw [Shape.Gathers.idx_rowRect_emb]
  have hrow : ∀ j, iprop(inv κ (Transfers.batchBody EC (c, SemLoc.dma sem) N D γ γ₀)
        ∗ ((((dst.view.loc c ↦[(dst.view.slice (s.rowRect hg.axis' j)).set]{fullShare} fd) ∗ S.heldEntry qo fo j)
        ∗ (src.view.loc c ↦[src.view.set]{pieceOf q _ ho j} fs)) ∗ count EC (γ (t j)) 0))
      ⊢ iprop(S.heldEntry qo fo j ∗ (S.heldEntry qo fo j -∗ rowRes c (rd j))) := fun j => by
    have hDj := hD j
    unfold rowDone at hDj
    iintro ⟨#Hinv, ⟨⟨Hr, He⟩, Hsq⟩, Hγj⟩
    isplitl [He]; · iexact He
    iintro He
    unfold rowRes
    iexists pieceOf q _ ho j, fs, iprop((dst.view.loc c ↦[(dst.view.slice (s.rowRect hg.axis' j)).set]{fullShare}
      ((dst.view.slice (s.rowRect hg.axis' j)).write (Elt F) fd (w j) Finset.univ)) ∗ S.heldEntry qo fo j)
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · rw [hW j]
      have key := Transfers.batch_creditUpdate EC (g := (c, SemLoc.dma sem)) (N := N) (D := D) (γ := γ) (γ₀ := γ₀) (ι := κ) (t j) hDj
      rw [← hN j] at key
      iapply key
      isplitr
      · rw [hN j]; iexact Hinv
      iexact Hγj
  iintro ⟨#Hinv, Hs, Hd, Ho, Hγ⟩ Hk
  ihave Hd' := (Entails.of_eq (pointsTo_rows c dst.view hg.axis' fullShare fd)) $$ Hd
  ihave Ho' := (Entails.of_eq (pointsTo_entries c offs.view S.entry (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι M hA hrd hsum) $$ [Hd' Ho' Hs' Hγ]
  · unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iexact Hk

end Cert.Proof.GatherBatch
-- ==== Proof.Base.lean ====
/-
  THE PROGRAM AS THE PROOF SEES IT: its call table, the resource algebra of the certificate (the SparseCore launch's rounds, the
  two pipelines' rounds, the transfers' counters), the buffers, the blocks of the gather's operands, and what one SparseCore launch
  is handed and hands back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.GatherBatch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The call table -/

abbrev ΛP [FloatOps F] : Labels := Pipeline.Sig Λ₀ (Fin 2) fun p => (pcfgs (F := F) p).Adm
abbrev K [FloatOps F] : SparseCore.Cfg τ sig (ΛP (F := F)) 1 := sc (F := F)
/-- The call runs on 16 subcores of each core -/
theorem nSub_zero [FloatOps F] : (K (F := F)).nSub 0 = 16 := rfl
/-- and on 2 cores. -/
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch configuration meets its side conditions. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' copy of the rounds algebra. -/
def EP : Emb UP (MT nD τ sig (HIx 1) (Elt F) ℕ UU ℕ) := (Emb.inl : Emb UP (UP × Counters)).trans embR
/-- The regions' rounds lie in the user part of the ghost state. -/
instance EP_landsIn : (EP (F := F)).LandsIn (upEmb : UEmb _ (MT nD τ sig (HIx 1) (Elt F) ℕ UU ℕ)) := by
  unfold EP; infer_instance

/-! ## The gather's buffers -/

abbrev iLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

/-- A word as a row of the table (the words the kernel is launched on name rows). -/
def rowIx (w : BitVec 32) : Fin 100000 := if h : w.toNat < 100000 then ⟨w.toNat, h⟩ else ⟨0, by norm_num⟩

/-- A word below 100000 names the row of its number. -/
theorem rowIx_val {w : BitVec 32} (h : w.toNat < 100000) : (rowIx w).val = w.toNat := by
  unfold rowIx; rw [dif_pos h]

/-- The gathered rows: row `r` is the table's row that word `r` of the list names. -/
def gath (I : S20480.Idx → Elt F .i32) (X : S100000x128.Idx → Elt F .f32) : S20480x128.Idx → Elt F .f32 :=
  fun x => X (ix2 (rowIx (I (ix1 (x 0)))) (x 1))

/-- One task's part of it. -/
def gathT (I : S640.Idx → Elt F .i32) (X : S100000x128.Idx → Elt F .f32) : S640x128.Idx → Elt F .f32 :=
  fun x => X (ix2 (rowIx (I (ix1 (x 0)))) (x 1))

/-- The list divides into 32 equal blocks, -/
theorem idiv : 32 ∣ S20480.size 0 := ⟨640, rfl⟩
/-- and so do the gathered rows. -/
theorem odiv : 32 ∣ S20480x128.size 0 := ⟨640, rfl⟩
/-- Block `k` of the index list, and of the gathered rows. -/
abbrev irow (k : Fin 32) : Rect S20480 := Rect.part (s := S20480) (a₀ := 0) idiv k
abbrev orow (k : Fin 32) : Rect S20480x128 := Rect.part (s := S20480x128) (a₀ := 0) odiv k
abbrev iRowSet (k : Fin 32) : Finset S20480.Idx := (irow k).set
abbrev oRowSet (k : Fin 32) : Finset S20480x128.Idx := (orow k).set

/-- The block of task `(c, s)`. -/
def kOf (c : Fin 2) (s : Fin 16) : Fin 32 := ⟨2 * s.val + c.val, by omega⟩
/-- Task `k`'s share of the table. -/
abbrev xq (k : Fin 32) : PosShare TreeShare := pieceOf fullShare 32 (by decide) k

abbrev iRowPts (I : S20480.Idx → Elt F .i32) (d : Dev nD) (k : Fin 32) : sProp 𝕄 := iLoc d ↦[iRowSet k]{fullShare} I
abbrev xShPts (X : S100000x128.Idx → Elt F .f32) (d : Dev nD) (k : Fin 32) : sProp 𝕄 := xLoc d ↦{xq k} X
abbrev oRowPts (O : S20480x128.Idx → Elt F .f32) (d : Dev nD) (k : Fin 32) : sProp 𝕄 := oLoc d ↦[oRowSet k]{fullShare} O

/-- What a task is handed, and what it hands back: its block of the list, its share of the table, its block of the result. -/
abbrev goPts (I : S20480.Idx → Elt F .i32) (X : S100000x128.Idx → Elt F .f32) (O : S20480x128.Idx → Elt F .f32) (d : Dev nD) (k : Fin 32) : sProp 𝕄 :=
  iprop(iRowPts I d k ∗ xShPts X d k ∗ oRowPts O d k)

variable [FloatOps F]

/-- The one launch's payloads: at launch contents `I`, `X`, `O` of the list, the table and the result, a task hands back the
    result's block holding the gathered rows; a SparseCore is handed, and hands back, its sixteen tasks'. -/
def P (I : Dev nD → S20480.Idx → Elt F .i32) (X : Dev nD → S100000x128.Idx → Elt F .f32) (O : Dev nD → S20480x128.Idx → Elt F .f32) :
    (K (F := F)).Pay (nD := nD) (Val := Elt F) (Name := ℕ) (U := UU) where
  st := fun q d c => match q with
    | 0 => bigSep Finset.univ fun s : Fin 16 => goPts (I d) (X d) (O d) d (kOf (Fin.cast nCore_zero c) s)
  dn := fun q d c => match q with
    | 0 => bigSep Finset.univ fun s : Fin 16 => goPts (I d) (X d) (gath (I d) (X d)) d (kOf (Fin.cast nCore_zero c) s)
  go := fun q d c s => match q with
    | 0 => goPts (I d) (X d) (O d) d (kOf (Fin.cast nCore_zero c) (Fin.cast nSub_zero s))
  td := fun q d c s => match q with
    | 0 => goPts (I d) (X d) (gath (I d) (X d)) d (kOf (Fin.cast nCore_zero c) (Fin.cast nSub_zero s))
  x := fun _ _ => iprop(emp)

/-- What the handshakes carry can be stored in them. -/
instance P_storable (I : Dev nD → S20480.Idx → Elt F .i32) (X : Dev nD → S100000x128.Idx → Elt F .f32) (O : Dev nD → S20480x128.Idx → Elt F .f32) :
    (P I X O).IsStorable where
  st q d c := match q with
    | 0 => (inferInstance : BI.Storable (upEmb : UEmb _ 𝕄) (bigSep Finset.univ fun s : Fin 16 => goPts (I d) (X d) (O d) d (kOf (Fin.cast nCore_zero c) s)))
  dn q d c := match q with
    | 0 => (inferInstance : BI.Storable (upEmb : UEmb _ 𝕄)
        (bigSep Finset.univ fun s : Fin 16 => goPts (I d) (X d) (gath (I d) (X d)) d (kOf (Fin.cast nCore_zero c) s)))
  go q d c s := match q with
    | 0 => (inferInstance : BI.Storable (upEmb : UEmb _ 𝕄) (goPts (I d) (X d) (O d) d (kOf (Fin.cast nCore_zero c) (Fin.cast nSub_zero s))))
  td q d c s := match q with
    | 0 => (inferInstance : BI.Storable (upEmb : UEmb _ 𝕄)
        (goPts (I d) (X d) (gath (I d) (X d)) d (kOf (Fin.cast nCore_zero c) (Fin.cast nSub_zero s))))

/-- What the proof asks of the index list: every word names a row of the table. -/
def PreOK (I : Dev nD → S20480.Idx → Elt F .i32) : Prop := ∀ (d : Dev nD) (j : S20480.Idx), (I d j).toNat < 100000

/-- Two blocks of the list share no index. -/
theorem irow_disjoint : ∀ i ∈ (Finset.univ : Finset (Fin 32)), ∀ j ∈ (Finset.univ : Finset (Fin 32)), i ≠ j → Disjoint (iRowSet i) (iRowSet j) :=
  fun _ _ _ _ h => Rect.part_disjoint idiv h
/-- Two blocks of the gathered rows share no index. -/
theorem orow_disjoint : ∀ i ∈ (Finset.univ : Finset (Fin 32)), ∀ j ∈ (Finset.univ : Finset (Fin 32)), i ≠ j → Disjoint (oRowSet i) (oRowSet j) :=
  fun _ _ _ _ h => Rect.part_disjoint odiv h

omit [FloatOps F] in
/-- The whole list is its 32 blocks. -/
theorem iPts_rows (d : Dev nD) (f : S20480.Idx → Elt F .i32) :
    (iLoc d ↦{fullShare} f : sProp 𝕄) = bigSep Finset.univ fun k : Fin 32 => iRowPts f d k := by
  rw [← pointsTo_biUnion Finset.univ (ℓ := iLoc d) iRowSet irow_disjoint, show (Finset.univ : Finset (Fin 32)).biUnion iRowSet = Finset.univ from Rect.biUnion_part idiv]
omit [FloatOps F] in
/-- The whole result is its 32 blocks. -/
theorem oPts_rows (d : Dev nD) (f : S20480x128.Idx → Elt F .f32) :
    (oLoc d ↦{fullShare} f : sProp 𝕄) = bigSep Finset.univ fun k : Fin 32 => oRowPts f d k := by
  rw [← pointsTo_biUnion Finset.univ (ℓ := oLoc d) oRowSet orow_disjoint, show (Finset.univ : Finset (Fin 32)).biUnion oRowSet = Finset.univ from Rect.biUnion_part odiv]
omit [FloatOps F] in
set_option maxRecDepth 16384 in
/-- The whole table is its 32 read shares. -/
theorem xPts_shares (d : Dev nD) (f : S100000x128.Idx → Elt F .f32) :
    (xLoc d ↦{fullShare} f : sProp 𝕄) = bigSep Finset.univ fun k : Fin 32 => xShPts f d k :=
  pointsTo_piecesOf (ℓ := xLoc d) Finset.univ f (show 0 < 32 by decide) fullShare

/-- The tasks, by core and subcore. -/
def kEquiv : Fin 2 × Fin 16 ≃ Fin 32 where
  toFun p := kOf p.1 p.2
  invFun k := (⟨k.val % 2, Nat.mod_lt _ (by decide)⟩, ⟨k.val / 2, by omega⟩)
  left_inv := by rintro ⟨c, s⟩; ext <;> simp only [kOf] <;> omega
  right_inv := by intro k; ext; simp only [kOf]; omega

omit [FloatOps F] in
/-- The three operands whole are every task's at once. -/
theorem goPts_all (I : S20480.Idx → Elt F .i32) (X : S100000x128.Idx → Elt F .f32) (O : S20480x128.Idx → Elt F .f32) (d : Dev nD) :
    (iprop((iLoc d ↦{fullShare} I) ∗ (xLoc d ↦{fullShare} X) ∗ (oLoc d ↦{fullShare} O)) : sProp 𝕄)
      = bigSep Finset.univ fun c : Fin 2 => bigSep Finset.univ fun s : Fin 16 => goPts I X O d (kOf c s) := by
  rw [iPts_rows, xPts_shares, oPts_rows, ← bigSep_sep', ← bigSep_sep', bigSep_univ_equiv kEquiv, bigSep_univ_prod]
  rfl

/-- A SparseCore's operands are its tasks'. -/
theorem vecSplit (I : Dev nD → S20480.Idx → Elt F .i32) (X : Dev nD → S100000x128.Idx → Elt F .f32) (O : Dev nD → S20480x128.Idx → Elt F .f32) :
    (K (F := F)).VecSplit' (P I X O) 0 := by
  intro d c
  show (bigSep Finset.univ fun s : Fin 16 => goPts (I d) (X d) (O d) d (kOf (Fin.cast nCore_zero c) s)) ⊢ |={Set.univ}=> iprop(
      (bigSep Finset.univ fun s : Fin ((K (F := F)).nSub 0) => goPts (I d) (X d) (O d) d (kOf (Fin.cast nCore_zero c) (Fin.cast nSub_zero s)))
      ∗ ((bigSep Finset.univ fun s : Fin ((K (F := F)).nSub 0) =>
            goPts (I d) (X d) (gath (I d) (X d)) d (kOf (Fin.cast nCore_zero c) (Fin.cast nSub_zero s)))
          -∗ bigSep Finset.univ fun s : Fin 16 => goPts (I d) (X d) (gath (I d) (X d)) d (kOf (Fin.cast nCore_zero c) s)))
  iintro H; imodintro
  isplitl [H]; · iexact H
  iintro H; iexact H

end Cert.Proof.K

end
-- ==== Proof.Bodies.lean ====
/-
  THE TWO TENSORCORE KERNELS' BODIES, each run once on whatever staging buffers it is called with: whole loads, one payload, one
  whole store.
-/
module

public import proofs.«01_k».proof.Proof.Base
public import proofs.«01_k».proof.Proof.Gen.KernelIdeal.Points
public import Idealize.ShloMosaic.Lib.Pipeline.RegionArrays

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- A load of everything a memref views, at the head of a program: the program continues at the memref's contents. -/
theorem load_full {Λ : Labels} {defs : Defs nD τ sig (Elt F) Λ} (𝒱₁ : Variants) (c : Thread nD τ) (E : Set ℕ)
    {cs : CoreSpace} {s : Shape} {e : EltTy} (mr : Memref sig c.2.kind cs s e) {off : Fin s.rank → ℕ} (h0 : off = fun _ => 0)
    (inb : ∀ a, off a + s.size a ≤ s.size a) (hl : mr.view.LoadsAt (Rect.unit off s.size inb).toLoadRect)
    {α : Type} (k : (s.Idx → Elt F e) → Prog (TpuEff nD τ sig (Elt F) Λ c.2) α) (X : s.Idx → Elt F e) (Q : α → sProp 𝕄) :
    (owns c mr fullShare X : sProp 𝕄)
      ⊢ iprop((owns c mr fullShare X -∗ wp frame (wpE defs 𝒱₁ c none) E (k X) Q)
          -∗ wp frame (wpE defs 𝒱₁ c none) E (.op (.load mr (Rect.unit off s.size inb).toLoadRect hl) k) Q) := by
  subst h0
  unfold owns
  iintro ⟨%f, %hf, H⟩ Hk
  iapply (wp_load 𝒱₁ c none E (m := mr) (r := (Rect.unit (fun _ => 0) s.size inb).toLoadRect) (hl := hl) (k := k) (Q := Q)
    (S := mr.view.set) (q := fullShare) (f := f) (View.setOn_subset_set _ _)) $$ H
  iintro H
  have hx : mr.view.readAt (Elt F) (Rect.unit (fun _ => 0) s.size inb).toLoadRect f = X := by
    rw [← hf]
    funext x
    show mr.view.read (Elt F) f ((Rect.unit (fun _ => 0) s.size inb).emb x) = mr.view.read (Elt F) f x
    congr 1
    funext a
    exact Fin.ext (by show 0 + 1 * (x a).val = (x a).val; omega)
  rw [hx]
  iapply Hk
  iexists f
  isplitr; · ipureintro; exact hf
  iexact H

omit [FloatOps F] in
/-- A store to everything a memref views, at the head of a program: the memref holds what is stored. -/
theorem store_full {Λ : Labels} {defs : Defs nD τ sig (Elt F) Λ} (𝒱₁ : Variants) (c : Thread nD τ) (E : Set ℕ)
    {cs : CoreSpace} {s : Shape} {e : EltTy} (mr : Memref sig c.2.kind cs s e) {off : Fin s.rank → ℕ} (h0 : off = fun _ => 0)
    (inb : ∀ a, off a + s.size a ≤ s.size a) (w : s.Idx → Elt F e)
    (hx : (mr.access (Rect.unit off s.size inb)).Stores Finset.univ) (hm : Finset.univ = Finset.univ ∨ ∀ a, (Rect.unit off s.size inb).stride a = 1)
    {α : Type} (k : PUnit → Prog (TpuEff nD τ sig (Elt F) Λ c.2) α) (X : s.Idx → Elt F e) (Q : α → sProp 𝕄) :
    (owns c mr fullShare X : sProp 𝕄)
      ⊢ iprop((owns c mr fullShare w -∗ wp frame (wpE defs 𝒱₁ c none) E (k ⟨⟩) Q)
          -∗ wp frame (wpE defs 𝒱₁ c none) E (.op (.store mr (Rect.unit off s.size inb) w Finset.univ hx hm) k) Q) := by
  subst h0
  unfold owns
  iintro ⟨%f, %hf, H⟩ Hk
  iapply (wp_store 𝒱₁ c none E (m := mr) (r := Rect.unit (fun _ => 0) s.size inb) (w := w) (Mk := Finset.univ) (hx := hx) (hm := hm) (k := k) (Q := Q)
    (S := mr.view.set) (f := f) (Memref.setOn_access_subset _ _ _)) $$ H
  iintro H
  iapply Hk
  iexists _
  isplitr
  rotate_left
  · iexact H
  · ipureintro
    funext x
    have hxx : (Rect.unit (fun _ => 0) s.size inb).emb x = x := funext fun a => Fin.ext (by show 0 + 1 * (x a).val = (x a).val; omega)
    have := View.read_slice_write_emb (Val := Elt F) (v := mr.view) (Rect.unit (fun _ => 0) s.size inb) f w (M := Finset.univ) (x := x) (Finset.mem_univ _)
    rw [hxx] at this
    exact this

/-- The offsets `[0, 0]` are zero on every axis. -/
theorem zero2 : (![0, 0] : Fin 2 → ℕ) = fun _ => 0 := funext fun a => by fin_cases a <;> rfl

/-- The first dense layer's body on buffers at `X0`, `X1`, `X2`: its result's buffer ends at the layer's block of them. -/
theorem body1_run (c : Dev nD) (E : Set ℕ) (a0 : Memref sig .tc .vmem S1024x640 .f32) (h0 : a0.IsWhole) (a1 : Memref sig .tc .vmem S640x128 .f32) (h1 : a1.IsWhole)
    (a2 : Memref sig .tc .vmem S1x128 .f32) (h2 : a2.IsWhole) (a3 : Memref sig .tc .vmem S128x1024 .f32) (h3 : a3.IsWhole)
    (X0 : S1024x640.Idx → Elt F .f32) (X1 : S640x128.Idx → Elt F .f32) (X2 : S1x128.Idx → Elt F .f32) (X3 : S128x1024.Idx → Elt F .f32) (Q : PUnit → sProp 𝕄) :
    iprop((owns (c : Thread nD τ) a0 fullShare X0 ∗ owns (c : Thread nD τ) a1 fullShare X1 ∗ owns (c : Thread nD τ) a2 fullShare X2
            ∗ owns (c : Thread nD τ) a3 fullShare X3)
          ∗ (iprop(owns (c : Thread nD τ) a0 fullShare X0 ∗ owns (c : Thread nD τ) a1 fullShare X1 ∗ owns (c : Thread nD τ) a2 fullShare X2
                ∗ owns (c : Thread nD τ) a3 fullShare (k1_pay1 X0 X1 X2)) -∗ Q ⟨⟩))
      ⊢ wp frame (wpE (defs₀ (F := F)) 𝒱₀ c none) E (cc1__fc1_body a0 h0 a1 h1 a2 h2 a3 h3) Q := by
  rw [cc1__fc1_body_eq_skeleton]; unfold cc1__fc1_body_skel
  simp only [Prog.lift, Prog.bind_op, Prog.bind_ret]
  iintro ⟨⟨H0, H1, H2, H3⟩, Hk⟩
  iapply (load_full (defs := defs₀ (F := F)) 𝒱₀ (c : Thread nD τ) E a0 zero2 _ _ _ X0 Q) $$ H0
  iintro H0
  iapply (load_full (defs := defs₀ (F := F)) 𝒱₀ (c : Thread nD τ) E a1 zero2 _ _ _ X1 Q) $$ H1
  iintro H1
  iapply (load_full (defs := defs₀ (F := F)) 𝒱₀ (c : Thread nD τ) E a2 zero2 _ _ _ X2 Q) $$ H2
  iintro H2
  iapply (load_full (defs := defs₀ (F := F)) 𝒱₀ (c : Thread nD τ) E a3 zero2 _ _ _ X3 Q) $$ H3
  iintro H3
  iapply (store_full (defs := defs₀ (F := F)) 𝒱₀ (c : Thread nD τ) E a3 zero2 _ _ _ _ _ X3 Q) $$ H3
  iintro H3
  rw [Prog.pure_eq_ret, wp_ret]
  imodintro
  iapply Hk
  isplitl [H0]; · iexact H0
  isplitl [H1]; · iexact H1
  isplitl [H2]; · iexact H2
  iexact H3

/-- The second dense layer's body likewise. -/
theorem body2_run (c : Dev nD) (E : Set ℕ) (i : grid2.Coords) (a1 : Memref sig .tc .vmem S128x1024 .f32) (h1 : a1.IsWhole) (a2 : Memref sig .tc .vmem S4096x128 .f32) (h2 : a2.IsWhole)
    (a3 : Memref sig .tc .vmem S4096x1 .f32) (h3 : a3.IsWhole) (a4 : Memref sig .tc .vmem S4096x1024 .f32) (h4 : a4.IsWhole)
    (X1 : S128x1024.Idx → Elt F .f32) (X2 : S4096x128.Idx → Elt F .f32) (X3 : S4096x1.Idx → Elt F .f32) (X4 : S4096x1024.Idx → Elt F .f32) (Q : PUnit → sProp 𝕄) :
    iprop((owns (c : Thread nD τ) a1 fullShare X1 ∗ owns (c : Thread nD τ) a2 fullShare X2 ∗ owns (c : Thread nD τ) a3 fullShare X3
            ∗ owns (c : Thread nD τ) a4 fullShare X4)
          ∗ (iprop(owns (c : Thread nD τ) a1 fullShare X1 ∗ owns (c : Thread nD τ) a2 fullShare X2 ∗ owns (c : Thread nD τ) a3 fullShare X3
                ∗ owns (c : Thread nD τ) a4 fullShare (k2_pay1 X2 X1 X3)) -∗ Q ⟨⟩))
      ⊢ wp frame (wpE (defs₀ (F := F)) 𝒱₀ c none) E (cc2__fc2_body i a1 h1 a2 h2 a3 h3 a4 h4) Q := by
  rw [cc2__fc2_body_eq_skeleton]; unfold cc2__fc2_body_skel
  simp only [Prog.lift, Prog.bind_op, Prog.bind_ret]
  iintro ⟨⟨H1, H2, H3, H4⟩, Hk⟩
  iapply (load_full (defs := defs₀ (F := F)) 𝒱₀ (c : Thread nD τ) E a2 zero2 _ _ _ X2 Q) $$ H2
  iintro H2
  iapply (load_full (defs := defs₀ (F := F)) 𝒱₀ (c : Thread nD τ) E a1 zero2 _ _ _ X1 Q) $$ H1
  iintro H1
  iapply (load_full (defs := defs₀ (F := F)) 𝒱₀ (c : Thread nD τ) E a3 zero2 _ _ _ X3 Q) $$ H3
  iintro H3
  iapply (load_full (defs := defs₀ (F := F)) 𝒱₀ (c : Thread nD τ) E a4 zero2 _ _ _ X4 Q) $$ H4
  iintro H4
  iapply (store_full (defs := defs₀ (F := F)) 𝒱₀ (c : Thread nD τ) E a4 zero2 _ _ _ _ _ X4 Q) $$ H4
  iintro H4
  rw [Prog.pure_eq_ret, wp_ret]
  imodintro
  iapply Hk
  isplitl [H1]; · iexact H1
  isplitl [H2]; · iexact H2
  isplitl [H3]; · iexact H3
  iexact H4

end Cert.Proof.K

end
-- ==== Proof.Segs.lean ====
/-
  THE TWO TENSORCORE CALLS as regions of `@main`: what each finds in its arrays, what it may leave in its result's array, and the
  passage from the core's buffers at one valuation to the core's buffers at the next.
-/
module

public import proofs.«01_k».proof.Proof.Bodies

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "VAL" => Valuation τ sig (Elt F)

/-- The tables' admissible contents: no pipeline has a table. -/
abbrev adm : (p : Fin 2) → (pcfgs (F := F) p).Adm := fun p => (cfgs p).toPCfg_adm

/-! ## What the bodies leave -/

/-- `B` holds block `u` of the second layer's weights as far as the array goes. -/
def Holds1 (W : S100000x128.Idx → Elt F .f32) (u : ℕ) (B : S4096x128.Idx → Elt F .f32) : Prop :=
  ∀ (p : Fin 4096) (k : Fin 128) (h : u * 4096 + p.val < 100000), B (ix2 p k) = W (ix2 ⟨u * 4096 + p.val, h⟩ k)
/-- `C` holds block `u` of the second layer's biases as far as the array goes. -/
def Holds2 (b : S100000x1.Idx → Elt F .f32) (u : ℕ) (C : S4096x1.Idx → Elt F .f32) : Prop :=
  ∀ (p : Fin 4096) (k : Fin 1) (h : u * 4096 + p.val < 100000), C (ix2 p k) = b (ix2 ⟨u * 4096 + p.val, h⟩ k)
/-- `X` is the second layer's block `u` over the hidden layer `H`, of blocks that hold the array's as far as it goes. -/
def Blk2 (H : S128x1024.Idx → Elt F .f32) (W : S100000x128.Idx → Elt F .f32) (b : S100000x1.Idx → Elt F .f32) (u : ℕ) (X : S4096x1024.Idx → Elt F .f32) : Prop :=
  ∃ B C, Holds1 W u B ∧ Holds2 b u C ∧ X = k2_pay1 B H C
/-- `G` is the second layer's result, block by block. -/
def Rel2 (H : S128x1024.Idx → Elt F .f32) (W : S100000x128.Idx → Elt F .f32) (b : S100000x1.Idx → Elt F .f32) (G : S100000x1024.Idx → Elt F .f32) : Prop :=
  ∀ (u : ℕ) (p : Fin 4096) (j : Fin 1024) (h : u * 4096 + p.val < 100000), ∃ X, Blk2 H W b u X ∧ G (ix2 ⟨u * 4096 + p.val, h⟩ j) = X (ix2 p j)

/-- The first layer's result. -/
def out1 (V : VAL) : S128x1024.Idx → Elt F .f32 :=
  k1_pay1 (V (Proc.devRef .tc main_v4)) (V (Proc.devRef .tc main_arg2)) (V (Proc.devRef .tc main_v5))

/-- What the first call's body leaves: the result's block; nothing is said of the inputs' buffers. -/
def after1 (V : VAL) : (w : Fin 4) → ((win1 w).block.Idx → Elt F (win1 w).elt) → Prop
  | 0 => fun _ => True
  | 1 => fun _ => True
  | 2 => fun _ => True
  | 3 => fun X => X = out1 V
  | ⟨_ + 4, h⟩ => absurd h (Nat.not_lt.2 (Nat.le_add_left _ _))

/-- What the second call's body leaves at point `t`: the hidden layer where it found it, and the result's block. -/
def after2 (V : VAL) (t : ℕ) : (w : Fin 4) → ((win2 w).block.Idx → Elt F (win2 w).elt) → Prop
  | 0 => fun X => X = V (Proc.devRef .tc main_v6)
  | 1 => fun _ => True
  | 2 => fun _ => True
  | 3 => fun X => Blk2 (V (Proc.devRef .tc main_v6)) (V (Proc.devRef .tc main_v7)) (V (Proc.devRef .tc main_v8)) t X
  | ⟨_ + 4, h⟩ => absurd h (Nat.not_lt.2 (Nat.le_add_left _ _))

/-- The pairs the core may have recorded: those at level 8 or below. -/
def low (c : Dev nD) : Set (SemLoc sig × HIx 1) := {p | (K (F := F)).lev ((c : Thread nD τ), p.1) p.2 ≤ 8}

/-- The first call's data at entry contents `V`. -/
def rd1 (V : Dev nD → VAL) (c : Dev nD) : Pipeline.RDat τ (Elt F) (HIx 1) ℕ UU ℕ cfg1 c where
  A w := V c (Proc.devRef .tc (Pipeline.arrRef spec1 w))
  after w _ _ X := after1 (V c) w X
  Φ _ := Pipeline.scopedRest spec1 c
  q _ := fullShare
  owed _ := 0
  recorded _ := low (F := F) c

/-- The second call's data at entry contents `V`. -/
def rd2 (V : Dev nD → VAL) (c : Dev nD) : Pipeline.RDat τ (Elt F) (HIx 1) ℕ UU ℕ cfg2 c where
  A w := V c (Proc.devRef .tc (Pipeline.arrRef spec2 w))
  after w t _ X := after2 (V c) t.val w X
  Φ _ := Pipeline.scopedRest spec2 c
  q _ := fullShare
  owed _ := 0
  recorded _ := low (F := F) c

/-- Both, as one family. -/
def rdats (V : Dev nD → VAL) : (p : Fin 2) → (c : Dev nD) → Pipeline.RDat τ (Elt F) (HIx 1) ℕ UU ℕ (Pipeline.pin (pcfgs (F := F)) adm p) c
  | 0 => rd1 V
  | 1 => rd2 V

/-! ## What the bodies find -/

/-- The first layer finds the laid out rows, -/
theorem found1_0 (V : Dev nD → VAL) (c : Dev nD) (t : Fin cfg1.N) (X) (h : (rd1 V c).Finds 0 t X) : X = V c (Proc.devRef .tc main_v4) := by
  obtain ⟨d, rfl⟩ := ((rd1 V c).finds_of_fetch (fetch1_0 t) X).mp h
  funext j
  unfold Pipeline.RDat.fetched Pipeline.Window.fill
  rw [dif_pos ((win1_0.moved_iff _ j).mpr fun a => (j a).isLt)]
  show V c (Proc.devRef .tc main_v4) _ = _
  congr 1
  funext a
  exact Fin.ext (by show 0 * _ + 1 * (j a).val = (j a).val; omega)

/-- its weights, -/
theorem found1_1 (V : Dev nD → VAL) (c : Dev nD) (t : Fin cfg1.N) (X) (h : (rd1 V c).Finds 1 t X) : X = V c (Proc.devRef .tc main_arg2) := by
  obtain ⟨d, rfl⟩ := ((rd1 V c).finds_of_fetch (fetch1_1 t) X).mp h
  funext j
  unfold Pipeline.RDat.fetched Pipeline.Window.fill
  rw [dif_pos ((win1_1.moved_iff _ j).mpr fun a => (j a).isLt)]
  show V c (Proc.devRef .tc main_arg2) _ = _
  congr 1
  funext a
  exact Fin.ext (by show 0 * _ + 1 * (j a).val = (j a).val; omega)

/-- and its bias row. -/
theorem found1_2 (V : Dev nD → VAL) (c : Dev nD) (t : Fin cfg1.N) (X) (h : (rd1 V c).Finds 2 t X) : X = V c (Proc.devRef .tc main_v5) := by
  obtain ⟨d, rfl⟩ := ((rd1 V c).finds_of_fetch (fetch1_2 t) X).mp h
  funext j
  unfold Pipeline.RDat.fetched Pipeline.Window.fill
  rw [dif_pos ((win1_2.moved_iff _ j).mpr fun a => (j a).isLt)]
  show V c (Proc.devRef .tc main_v5) _ = _
  congr 1
  funext a
  exact Fin.ext (by show 0 * _ + 1 * (j a).val = (j a).val; omega)

/-- Point `t` of the second layer's grid takes block `t` of the weights, -/
theorem coords2_1 (t : Fin cfg2.N) : cc2_transform_1 (grid2.coords t) 0 = t.val := by
  revert t; exact (by decide +kernel : ∀ t : Fin grid2.N, cc2_transform_1 (grid2.coords t) 0 = t.val)
/-- block `t` of the bias column, -/
theorem coords2_2 (t : Fin cfg2.N) : cc2_transform_2 (grid2.coords t) 0 = t.val := by
  revert t; exact (by decide +kernel : ∀ t : Fin grid2.N, cc2_transform_2 (grid2.coords t) 0 = t.val)
/-- and block `t` of the result. -/
theorem coords2_3 (t : Fin cfg2.N) : cc2_transform_3 (grid2.coords t) 0 = t.val := by
  revert t; exact (by decide +kernel : ∀ t : Fin grid2.N, cc2_transform_3 (grid2.coords t) 0 = t.val)

/-- Every point of the second layer finds the whole hidden layer, -/
theorem found2_0 (V : Dev nD → VAL) (c : Dev nD) (t : Fin cfg2.N) (X) (h : (rd2 V c).Finds 0 t X) : X = V c (Proc.devRef .tc main_v6) := by
  by_cases ht : t.val = 0
  · obtain ⟨d, rfl⟩ := ((rd2 V c).finds_of_fetch ((fetch2_0 t).mpr (by rw [ht])) X).mp h
    funext j
    unfold Pipeline.RDat.fetched Pipeline.Window.fill
    rw [dif_pos ((win2_0.moved_iff _ j).mpr fun a => (j a).isLt)]
    show V c (Proc.devRef .tc main_v6) _ = _
    congr 1
    funext a
    refine Fin.ext ?_
    show cc2_transform_0 (grid2.coords t) a * _ + 1 * (j a).val = (j a).val
    have : cc2_transform_0 (grid2.coords t) a = 0 := by
      have : ∀ a : Fin 2, cc2_transform_0 (grid2.coords t) a = 0 := fun a => by fin_cases a <;> rfl
      exact this a
    rw [this]; omega
  · have hf : (cfg2.win 0).fetch t = false := by
      rw [Bool.eq_false_iff]; intro h'
      have := (fetch2_0 t).mp h'
      have h25 : t.val < 25 := lt_of_lt_of_eq t.isLt N_2
      omega
    rcases ((rd2 V c).finds_of_pos hf ht X).mp h with hfl | ⟨Y, -, hY⟩
    · exact absurd hfl (by show ¬ (false && _) = true; simp)
    · exact hY

/-- What a transfer of a block that may overhang moves on an axis: what lies inside the array. -/
theorem clip_lt (ix k d q : ℕ) : q < (Pipeline.Clip.of ix k d).extent k ↔ q < k ∧ (ix * k + q < d ∨ (ix + 1) * k ≤ d) := by
  unfold Pipeline.Clip.of
  have e : (ix + 1) * k = ix * k + k := Nat.succ_mul ix k
  split
  · next h => show q < k ↔ _; constructor
              · intro hq; exact ⟨hq, Or.inr h⟩
              · exact fun hq => hq.1
  · next h => show q < d - ix * k ↔ _; rw [e] at *; constructor
              · intro hq; exact ⟨by omega, Or.inl (by omega)⟩
              · rintro ⟨_, h' | h'⟩ <;> omega

/-- its block of the weights as far as the array goes, -/
theorem found2_1 (V : Dev nD → VAL) (c : Dev nD) (t : Fin cfg2.N) (X) (h : (rd2 V c).Finds 1 t X) : Holds1 (V c (Proc.devRef .tc main_v7)) t.val X := by
  obtain ⟨d, rfl⟩ := ((rd2 V c).finds_of_fetch (fetch2_1 t) X).mp h
  intro p k hp
  have e0 : cc2_transform_1 (grid2.coords t) 0 = t.val := coords2_1 t
  unfold Pipeline.RDat.fetched Pipeline.Window.fill
  rw [dif_pos ((win2_1.moved_iff _ (ix2 p k)).mpr fun a => by
    have : ∀ a : Fin 2, ((ix2 p k : S4096x128.Idx) a).val < (Pipeline.Clip.of (cc2_transform_1 (grid2.coords t) a) (S4096x128.size a) (S100000x128.size a)).extent (S4096x128.size a) := fun a => by
      rw [clip_lt]
      fin_cases a
      · refine ⟨p.isLt, Or.inl ?_⟩
        show cc2_transform_1 (grid2.coords t) 0 * 4096 + p.val < 100000
        rw [e0]; exact hp
      · exact ⟨k.isLt, Or.inr (by show (0 + 1) * 128 ≤ 128; omega)⟩
    exact this a)]
  show V c (Proc.devRef .tc main_v7) _ = _
  congr 1
  refine funext fun (a : Fin 2) => Fin.ext ?_
  fin_cases a
  · show cc2_transform_1 (grid2.coords t) 0 * 4096 + 1 * p.val = t.val * 4096 + p.val
    rw [e0]; omega
  · show 0 * 128 + 1 * k.val = k.val
    omega

/-- and its block of the bias column as far as the array goes. -/
theorem found2_2 (V : Dev nD → VAL) (c : Dev nD) (t : Fin cfg2.N) (X) (h : (rd2 V c).Finds 2 t X) : Holds2 (V c (Proc.devRef .tc main_v8)) t.val X := by
  obtain ⟨d, rfl⟩ := ((rd2 V c).finds_of_fetch (fetch2_2 t) X).mp h
  intro p k hp
  have e0 : cc2_transform_2 (grid2.coords t) 0 = t.val := coords2_2 t
  unfold Pipeline.RDat.fetched Pipeline.Window.fill
  rw [dif_pos ((win2_2.moved_iff _ (ix2 p k)).mpr fun a => by
    have : ∀ a : Fin 2, ((ix2 p k : S4096x1.Idx) a).val < (Pipeline.Clip.of (cc2_transform_2 (grid2.coords t) a) (S4096x1.size a) (S100000x1.size a)).extent (S4096x1.size a) := fun a => by
      rw [clip_lt]
      fin_cases a
      · refine ⟨p.isLt, Or.inl ?_⟩
        show cc2_transform_2 (grid2.coords t) 0 * 4096 + p.val < 100000
        rw [e0]; exact hp
      · exact ⟨k.isLt, Or.inr (by show (0 + 1) * 1 ≤ 1; omega)⟩
    exact this a)]
  show V c (Proc.devRef .tc main_v8) _ = _
  congr 1
  refine funext fun (a : Fin 2) => Fin.ext ?_
  fin_cases a
  · show cc2_transform_2 (grid2.coords t) 0 * 4096 + 1 * p.val = t.val * 4096 + p.val
    rw [e0]; omega
  · show 0 * 1 + 1 * k.val = k.val
    omega

/-! ## What the results' arrays hold at the end -/

/-- After the first layer its array holds its result. -/
theorem arr1 (V : Dev nD → VAL) (c : Dev nD) (G) (h : (rd1 V c).ArrAt 3 cfg1.N G) : G = out1 (V c) := by
  have h1 : (rd1 V c).ArrAt 3 1 G := by have e : cfg1.N = 1 := N_1; rw [e] at h; exact h
  have h1 : (rd1 V c).ArrAt 3 (t1_0.val + 1) G := h1
  rw [(rd1 V c).ArrAt_succ 3 t1_0, if_pos (flush1_3 t1_0)] at h1
  obtain ⟨G₀, X, -, ⟨Y, -, hX⟩, rfl⟩ := h1
  have hX' : X = out1 (V c) := hX
  subst hX'
  funext j
  have := congrFun (View.read_write_univ (Val := Elt F) (v := (win1_3.blk t1_0).view) G₀ (win1_3.cut (grid1.coords t1_0) (out1 (V c)))) j
  have e : (win1_3.blk t1_0).view.emb j = j := funext fun a => Fin.ext (by show 0 * _ + 1 * (j a).val = (j a).val; omega)
  have h2 : (win1_3.blk t1_0).view.write (Elt F) G₀ (win1_3.cut (grid1.coords t1_0) (out1 (V c))) Finset.univ ((win1_3.blk t1_0).view.emb j) = out1 (V c) j := this
  rw [e] at h2
  exact h2

/-- After `n` points of the second layer, the rows of the first `n` blocks inside the array hold their blocks' results. -/
theorem arr2 (V : Dev nD → VAL) (c : Dev nD) (n : ℕ) (hn : n ≤ 25) (G) (h : (rd2 V c).ArrAt 3 n G) (u : ℕ) (hu : u < n) (p : Fin 4096) (j : Fin 1024)
    (hp : u * 4096 + p.val < 100000) :
    ∃ X, Blk2 (V c (Proc.devRef .tc main_v6)) (V c (Proc.devRef .tc main_v7)) (V c (Proc.devRef .tc main_v8)) u X
      ∧ (G : S100000x1024.Idx → Elt F .f32) (ix2 ⟨u * 4096 + p.val, hp⟩ j) = X (ix2 p j) := by
  induction n generalizing G with
  | zero => omega
  | succ n ih =>
    have hnN : n < cfg2.N := lt_of_lt_of_eq (by omega : n < 25) N_2.symm
    obtain ⟨t, rfl⟩ : ∃ t : Fin cfg2.N, t.val = n := ⟨⟨n, hnN⟩, rfl⟩
    rw [(rd2 V c).ArrAt_succ 3 t, if_pos (flush2_3 t)] at h
    obtain ⟨G₀, X, hG₀, ⟨Y, -, hX⟩, rfl⟩ := h
    have e0 : cc2_transform_3 (grid2.coords t) 0 = t.val := coords2_3 t
    by_cases hut : u = t.val
    · subst hut
      refine ⟨X, hX, ?_⟩
      have hy : ∀ a : Fin 2, ((ix2 p j : S4096x1024.Idx) a).val < (Pipeline.Clip.of (cc2_transform_3 (grid2.coords t) a) (S4096x1024.size a) (S100000x1024.size a)).extent (S4096x1024.size a) := fun a => by
        rw [clip_lt]
        fin_cases a
        · refine ⟨p.isLt, Or.inl ?_⟩
          show cc2_transform_3 (grid2.coords t) 0 * 4096 + p.val < 100000
          rw [e0]; exact hp
        · exact ⟨j.isLt, Or.inr (by show (0 + 1) * 1024 ≤ 1024; omega)⟩
      have := congrFun (View.read_write_univ (Val := Elt F) (v := (win2_3.blk t).view) G₀ (win2_3.cut (grid2.coords t) X)) (fun a => ⟨((ix2 p j : S4096x1024.Idx) a).val, hy a⟩)
      have e : (win2_3.blk t).view.emb (fun a => ⟨((ix2 p j : S4096x1024.Idx) a).val, hy a⟩) = (ix2 ⟨t.val * 4096 + p.val, hp⟩ j : S100000x1024.Idx) := by
        refine funext fun (a : Fin 2) => Fin.ext ?_
        fin_cases a
        · show cc2_transform_3 (grid2.coords t) 0 * 4096 + 1 * p.val = t.val * 4096 + p.val
          rw [e0]; omega
        · show 0 * 1024 + 1 * j.val = j.val
          omega
      have h2 : (win2_3.blk t).view.write (Elt F) G₀ (win2_3.cut (grid2.coords t) X) Finset.univ ((win2_3.blk t).view.emb (fun a => ⟨((ix2 p j : S4096x1024.Idx) a).val, hy a⟩)) = X (ix2 p j) := this
      rw [e] at h2
      exact h2
    · obtain ⟨X', hX', he⟩ := ih (by omega) G₀ hG₀ (by omega)
      refine ⟨X', hX', ?_⟩
      rw [← he]
      refine View.write_of_not_mem _ _ _ ?_
      rw [View.setOn_univ, View.set_slice_whole, Rect.mem_set_unit]
      intro hm
      have h0 := (hm 0).1
      have : cc2_transform_3 (grid2.coords t) 0 * 4096 ≤ u * 4096 + p.val := h0
      rw [e0] at this
      omega

/-- After all of them the whole array does. -/
theorem arr2_all (V : Dev nD → VAL) (c : Dev nD) (G) (h : (rd2 V c).ArrAt 3 cfg2.N G) :
    Rel2 (V c (Proc.devRef .tc main_v6)) (V c (Proc.devRef .tc main_v7)) (V c (Proc.devRef .tc main_v8)) G := by
  have h1 : (rd2 V c).ArrAt 3 25 G := by have e : cfg2.N = 25 := N_2; rw [e] at h; exact h
  exact fun u p j hp => arr2 V c 25 le_rfl G h1 u (by omega) p j hp

end Cert.Proof.K

end
-- ==== Proof.Regs.lean ====
/-
  THE TWO TENSORCORE CALLS, continued: their body obligations, and each as a region record between the core's buffers at one
  valuation and the core's buffers at the next.
-/
module

public import proofs.«01_k».proof.Proof.Segs

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "VAL" => Valuation τ sig (Elt F)

/-! ## The body obligations -/

/-- The first layer's body meets its obligation. -/
theorem obl1 (V : Dev nD → VAL) (c : Dev nD) : (rd1 V c).BodyObligation defs₀ 𝒱₀ (none : HIx 1) Set.univ := fun t Y hY => by
  rw [bigSep_W1, bigSep_W1]
  show _ ⊢ wp frame (wpE (defs₀ (F := F)) 𝒱₀ (c : Thread nD τ) none) Set.univ (bodyAt1 t) _
  rw [show (rd1 V c).Φ t.succ = (rd1 V c).Φ t.castSucc from rfl, show (rd1 V c).owesAt none t.succ = (rd1 V c).owesAt none t.castSucc from rfl]
  have e0 := found1_0 V c t (Y 0) (hY 0)
  have e1 := found1_1 V c t (Y 1) (hY 1)
  have e2 := found1_2 V c t (Y 2) (hY 2)
  iintro ⟨HΦ, HO, H0, H1, H2, H3⟩
  iapply (body1_run c Set.univ (win1_0.stage (cfg1.slots t 0)) (hstage1_0 0) (win1_1.stage (cfg1.slots t 1)) (hstage1_1 0) (win1_2.stage (cfg1.slots t 2)) (hstage1_2 0)
    (win1_3.stage (cfg1.slots t 3)) (hstage1_3 0) (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [HO]; · iexact HO
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  iexists (k1_pay1 (Y 0) (Y 1) (Y 2))
  isplitr
  · ipureintro
    show k1_pay1 (Y 0) (Y 1) (Y 2) = out1 (V c)
    rw [e0, e1, e2]; rfl
  iexact H3

/-- The second layer's body meets its obligation at every point of the grid. -/
theorem obl2 (V : Dev nD → VAL) (c : Dev nD) : (rd2 V c).BodyObligation defs₀ 𝒱₀ (none : HIx 1) Set.univ := fun t Y hY => by
  rw [bigSep_W2, bigSep_W2]
  show _ ⊢ wp frame (wpE (defs₀ (F := F)) 𝒱₀ (c : Thread nD τ) none) Set.univ (bodyAt2 t) _
  rw [show (rd2 V c).Φ t.succ = (rd2 V c).Φ t.castSucc from rfl, show (rd2 V c).owesAt none t.succ = (rd2 V c).owesAt none t.castSucc from rfl]
  have e0 := found2_0 V c t (Y 0) (hY 0)
  have e1 := found2_1 V c t (Y 1) (hY 1)
  have e2 := found2_2 V c t (Y 2) (hY 2)
  iintro ⟨HΦ, HO, H0, H1, H2, H3⟩
  iapply (body2_run c Set.univ (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3)) (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [HO]; · iexact HO
  isplitl [H0]
  · iexists (Y 0); isplitr; · ipureintro; exact e0
    iexact H0
  isplitl [H1]
  · iexists (Y 1); isplitr; · ipureintro; exact trivial
    iexact H1
  isplitl [H2]
  · iexists (Y 2); isplitr; · ipureintro; exact trivial
    iexact H2
  iexists (k2_pay1 (Y 1) (Y 0) (Y 2))
  isplitr
  · ipureintro
    exact ⟨Y 1, Y 2, e1, e2, by rw [← e0]⟩
  iexact H3

/-! ## The core's buffers through a region -/

/-- The core's unscoped buffers at a valuation. -/
abbrev bufs (c : Dev nD) (V : VAL) : sProp 𝕄 := StableHlo.held (c : Thread nD τ) (Pipeline.ucRefs τ sig) V
/-- The core owing nothing, what it has recorded at level 8 or below. -/
abbrev owes0 (c : Dev nD) : sProp 𝕄 := iprop(∃ W, ⌜(K (F := F)).WBelow (c : Thread nD τ) W 8⌝ ∗ owes (c : Thread nD τ) (0 : CellTallies nD τ sig (HIx 1)) W)

/-- A thread that owes nothing owes what a region asks of it at its start. -/
theorem owesAt_intro {cfg : Pipeline.Cfg sig Λ₀} {c : Dev nD} (rd : Pipeline.RDat τ (Elt F) (HIx 1) ℕ UU ℕ cfg c) (t : Fin (cfg.N + 1))
    (h0 : rd.owed t = 0) (hr : rd.recorded t = low (F := F) c) : (owes0 c : sProp 𝕄) ⊢ rd.owesAt none t := by
  unfold Pipeline.RDat.owesAt Pipeline.owesWithin Pipeline.RDat.bound; rw [h0, hr]
  iintro ⟨%W, %hW, HO⟩
  iexists W
  isplitr; · ipureintro; exact fun p hp => Or.inl (hW p hp)
  iexact HO

/-- What is owed at a region's end is nothing again. -/
theorem owesAt_elim {cfg : Pipeline.Cfg sig Λ₀} {c : Dev nD} (rd : Pipeline.RDat τ (Elt F) (HIx 1) ℕ UU ℕ cfg c) (t : Fin (cfg.N + 1))
    (h0 : rd.owed t = 0) (hr : rd.recorded t = low (F := F) c) : (rd.owesAt none t : sProp 𝕄) ⊢ owes0 c := by
  unfold Pipeline.RDat.owesAt Pipeline.owesWithin Pipeline.RDat.bound; rw [h0, hr]
  iintro ⟨%W, %hW, HO⟩
  iexists W
  isplitr
  · ipureintro
    intro p hp
    rcases hW hp with h | ⟨w, s, rfl⟩
    · exact h
    · exact Nat.zero_le _
  iexact HO

/-- The arrays at the end: at some contents each, all at once. -/
theorem arrays_open {cfg : Pipeline.Cfg sig Λ₀} {c : Dev nD} (rd : Pipeline.RDat τ (Elt F) (HIx 1) ℕ UU ℕ cfg c) (n : ℕ) :
    (rd.arraysAt n : sProp 𝕄) ⊢ iprop(∃ A, ⌜∀ w, rd.ArrAt w n (A w)⌝ ∗ rd.arrays A) := by
  unfold Pipeline.RDat.arraysAt Pipeline.RDat.arrays
  iintro H
  ihave H := (BI.bigSep_exists_pi Finset.univ (fun w G => iprop(⌜rd.ArrAt w n G⌝
    ∗ (cfg.win w).arr.view.loc (c.tc : Thread nD τ) ↦[(cfg.win w).arr.view.set]{rd.share w} G))) $$ H
  icases H with ⟨%A, H⟩
  ihave H := (BI.bigSep_pure_sep Finset.univ (fun w => rd.ArrAt w n (A w))
    (fun w => (cfg.win w).arr.view.loc (c.tc : Thread nD τ) ↦[(cfg.win w).arr.view.set]{rd.share w} A w)) $$ H
  icases H with ⟨%hA, H⟩
  iexists A
  isplitr; · ipureintro; exact fun w => hA w (Finset.mem_univ w)
  iexact H

/-- The arrays and the rest, put back together at a valuation that agrees with both. -/
theorem bufs_close (p : Fin 2) (hw : Pipeline.WinFacts (cfgs p).spec) (harr : ∀ w, ((cfgs p).spec w).arr.IsWhole) (c : Dev nD)
    (rd : Pipeline.RDat τ (Elt F) (HIx 1) ℕ UU ℕ (cfgs p) c) (hs : ∀ w, rd.share w = fullShare) (V V' : VAL)
    (A : (w : Fin (cfgs p).W) → Buf (Elt F) (((cfgs p).win w).arr.view.loc (c.tc : Thread nD τ)))
    (hA : ∀ w, A w = V' (Proc.devRef .tc (Pipeline.arrRef (cfgs p).spec w)))
    (hV : ∀ b : Ref sig .tc, (∀ w, b ≠ Pipeline.arrRef (cfgs p).spec w) → V' (Proc.devRef .tc b) = V (Proc.devRef .tc b)) :
    (iprop(rd.arrays A ∗ Pipeline.unscopedRest (cfgs p).spec c (fun b => V b)) : sProp 𝕄) ⊢ bufs c V' := by
  rw [show (bufs c V' : sProp 𝕄) = unscopedBufs c (fun b => V' b) from (Pipeline.unscopedBufs_held c V').symm,
    Pipeline.unscopedBufs_split cfgs p hw.arr_unscoped hw.arr_inj c (fun b => V' b)]
  refine sep_mono (Entails.of_eq ?_) (Entails.of_eq ?_)
  · unfold Pipeline.RDat.arrays
    exact bigSep_congr fun w _ => by rw [(harr w).set_eq_univ, hs, hA]
  · unfold Pipeline.unscopedRest
    refine bigSep_congr fun b hb => ?_
    have e := hV b fun w e => (Finset.mem_sdiff.mp hb).2 (Finset.mem_image.mpr ⟨w, Finset.mem_univ _, e.symm⟩)
    exact congrArg (fun f => ((c.tc : Thread nD τ).loc b ↦{fullShare} f : sProp 𝕄)) e.symm

/-- A valuation with one buffer of the core's at other contents. -/
abbrev upd (V : VAL) (b : Ref sig .tc) (x : (Proc.devRef (τ := τ) .tc b).ty.Contents (Elt F)) : VAL := Function.update V (Proc.devRef .tc b) x

/-- Every array of the first layer is held whole. -/
theorem share1 (V : Dev nD → VAL) (c : Dev nD) (w : Fin 4) : (rd1 V c).share w = fullShare := by
  unfold Pipeline.RDat.share; split <;> rfl
/-- Every array of the second layer is held whole. -/
theorem share2 (V : Dev nD → VAL) (c : Dev nD) (w : Fin 4) : (rd2 V c).share w = fullShare := by
  unfold Pipeline.RDat.share; split <;> rfl

/-- Out of the first call: its arrays at the end and the buffers that bypassed it, put back together. -/
theorem exit1 (V : Dev nD → VAL) (c : Dev nD) :
    (iprop((rd1 V c).arraysAt cfg1.N ∗ (rd1 V c).owesAt none (Fin.last cfg1.N) ∗ emp ∗ Pipeline.unscopedRest spec1 c (fun b => V c b)) : sProp 𝕄)
      ⊢ |={Set.univ}=> iprop(bufs c (upd (V c) main_v6 (out1 (V c))) ∗ owes0 c) := by
  iintro ⟨HA, HO, -, HZ⟩
  imodintro
  ihave HA := (arrays_open (rd1 V c) cfg1.N) $$ HA
  icases HA with ⟨%A, %hA, HA⟩
  isplitl [HA HZ]
  · iapply (bufs_close 0 winFacts1 arr_whole1 c (rd1 V c) (share1 V c) (V c) (upd (V c) main_v6 (out1 (V c))) A
      (fun w => by
        fin_cases w
        · exact ((cast (congrFun (Pipeline.RDat.ArrAt_in (rd1 V c) 0 rfl cfg1.N) (A 0)) (hA 0))).trans (Function.update_of_ne (StableHlo.devRef_ne_of_ne (by decide)) _ _).symm
        · exact ((cast (congrFun (Pipeline.RDat.ArrAt_in (rd1 V c) 1 rfl cfg1.N) (A 1)) (hA 1))).trans (Function.update_of_ne (StableHlo.devRef_ne_of_ne (by decide)) _ _).symm
        · exact ((cast (congrFun (Pipeline.RDat.ArrAt_in (rd1 V c) 2 rfl cfg1.N) (A 2)) (hA 2))).trans (Function.update_of_ne (StableHlo.devRef_ne_of_ne (by decide)) _ _).symm
        · exact (arr1 V c _ (hA 3)).trans (Function.update_self (Proc.devRef .tc main_v6) _ (V c)).symm)
      (fun b hb => Function.update_of_ne (StableHlo.devRef_ne_of_ne (hb 3)) _ _))
    isplitl [HA]; · iexact HA
    iexact HZ
  iapply (owesAt_elim (rd1 V c) (Fin.last _) rfl rfl)
  iexact HO

/-- The first call, from the buffers at `V` to the buffers at `V` with its result's array at the layer's result. -/
def reg1 (V : Dev nD → VAL) : Pipeline.RDat.RegionSeg (pcfgs (F := F)) adm (rdats V) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := obl1 V c
  hwaits := Pipeline.RDat.hwaits_of_owed_zero _ _ _ _ _ _ 0 fun _ _ => rfl
  pre c := iprop(bufs c (V c) ∗ owes0 c)
  post c := iprop(bufs c (upd (V c) main_v6 (out1 (V c))) ∗ owes0 c)
  X _ := iprop(emp)
  Y _ := iprop(emp)
  Z c := Pipeline.unscopedRest spec1 c (fun b => V c b)
  hentry c := by
    rw [Pipeline.ownSems0_none, Pipeline.prefHeld_of_none _ rfl]
    iintro ⟨⟨HB, HO⟩, -, -⟩
    imodintro
    ihave HB := ((Entails.of_eq (Pipeline.unscopedBufs_held c (V c)).symm).trans
      (Pipeline.RDat.arrays_of_unscopedBufs (pcfgs (F := F)) adm (rdats V) (p := 0) winFacts1 arr_whole1 c (share1 V c) (fun b => V c b) (fun _ => rfl))) $$ HB
    icases HB with ⟨HA, HZ⟩
    isplitl [HA]; · iexact HA
    isplitr; · iempintro
    isplitl [HO]; · iapply (owesAt_intro (rd1 V c) 0 rfl rfl); iexact HO
    isplitr; · iempintro
    iexact HZ
  hin c := by
    rw [show (rdats V 0 c).Φ 0 = Pipeline.scopedRest spec1 c from rfl]
    iintro ⟨-, -, HS⟩
    iexact HS
  hout c := by
    rw [show (rdats V 0 c).Φ (Fin.last _) = Pipeline.scopedRest spec1 c from rfl, Pipeline.ownSems0_none]
    iintro HS
    isplitr; · iempintro
    isplitr; · iempintro
    iexact HS
  hexit c := exit1 V c

/-- Out of the second call: its arrays at the end and the buffers that bypassed it, put back together. -/
theorem exit2 (V : Dev nD → VAL) (c : Dev nD) :
    (iprop((rd2 V c).arraysAt cfg2.N ∗ (rd2 V c).owesAt none (Fin.last cfg2.N) ∗ emp ∗ Pipeline.unscopedRest spec2 c (fun b => V c b)) : sProp 𝕄)
      ⊢ |={Set.univ}=> iprop((∃ G, ⌜Rel2 (V c (Proc.devRef .tc main_v6)) (V c (Proc.devRef .tc main_v7)) (V c (Proc.devRef .tc main_v8)) G⌝ ∗ bufs c (upd (V c) main_v9 G)) ∗ owes0 c) := by
  iintro ⟨HA, HO, -, HZ⟩
  imodintro
  ihave HA := (arrays_open (rd2 V c) cfg2.N) $$ HA
  icases HA with ⟨%A, %hA, HA⟩
  isplitl [HA HZ]
  · iexists (A 3)
    isplitr; · ipureintro; exact arr2_all V c _ (hA 3)
    iapply (bufs_close 1 winFacts2 arr_whole2 c (rd2 V c) (share2 V c) (V c) (upd (V c) main_v9 (A 3)) A
      (fun w => by
        fin_cases w
        · exact ((cast (congrFun (Pipeline.RDat.ArrAt_in (rd2 V c) 0 rfl cfg2.N) (A 0)) (hA 0))).trans (Function.update_of_ne (StableHlo.devRef_ne_of_ne (by decide)) _ _).symm
        · exact ((cast (congrFun (Pipeline.RDat.ArrAt_in (rd2 V c) 1 rfl cfg2.N) (A 1)) (hA 1))).trans (Function.update_of_ne (StableHlo.devRef_ne_of_ne (by decide)) _ _).symm
        · exact ((cast (congrFun (Pipeline.RDat.ArrAt_in (rd2 V c) 2 rfl cfg2.N) (A 2)) (hA 2))).trans (Function.update_of_ne (StableHlo.devRef_ne_of_ne (by decide)) _ _).symm
        · exact (Function.update_self (Proc.devRef .tc main_v9) _ (V c)).symm)
      (fun b hb => Function.update_of_ne (StableHlo.devRef_ne_of_ne (hb 3)) _ _))
    isplitl [HA]; · iexact HA
    iexact HZ
  iapply (owesAt_elim (rd2 V c) (Fin.last _) rfl rfl)
  iexact HO

/-- The second call likewise: its result's array ends at contents that are the layer's, block by block. -/
def reg2 (V : Dev nD → VAL) : Pipeline.RDat.RegionSeg (pcfgs (F := F)) adm (rdats V) (none : HIx 1) defs₀ 𝒱₀ (K (F := F)).L (K (F := F)).lev 1 where
  win := winFacts2.to₀
  block_pos := block_pos2
  stage_whole := stage_whole2
  K := PEmpty
  osem k := k.elim
  ho := Pipeline.OwnSemFacts.none _
  hbody c := obl2 V c
  hwaits := Pipeline.RDat.hwaits_of_owed_zero _ _ _ _ _ _ 1 fun _ _ => rfl
  pre c := iprop(bufs c (V c) ∗ owes0 c)
  post c := iprop((∃ G, ⌜Rel2 (V c (Proc.devRef .tc main_v6)) (V c (Proc.devRef .tc main_v7)) (V c (Proc.devRef .tc main_v8)) G⌝ ∗ bufs c (upd (V c) main_v9 G)) ∗ owes0 c)
  X _ := iprop(emp)
  Y _ := iprop(emp)
  Z c := Pipeline.unscopedRest spec2 c (fun b => V c b)
  hentry c := by
    rw [Pipeline.ownSems0_none, Pipeline.prefHeld_of_none _ rfl]
    iintro ⟨⟨HB, HO⟩, -, -⟩
    imodintro
    ihave HB := ((Entails.of_eq (Pipeline.unscopedBufs_held c (V c)).symm).trans
      (Pipeline.RDat.arrays_of_unscopedBufs (pcfgs (F := F)) adm (rdats V) (p := 1) winFacts2 arr_whole2 c (share2 V c) (fun b => V c b) (fun _ => rfl))) $$ HB
    icases HB with ⟨HA, HZ⟩
    isplitl [HA]; · iexact HA
    isplitr; · iempintro
    isplitl [HO]; · iapply (owesAt_intro (rd2 V c) 0 rfl rfl); iexact HO
    isplitr; · iempintro
    iexact HZ
  hin c := by
    rw [show (rdats V 1 c).Φ 0 = Pipeline.scopedRest spec2 c from rfl]
    iintro ⟨-, -, HS⟩
    iexact HS
  hout c := by
    rw [show (rdats V 1 c).Φ (Fin.last _) = Pipeline.scopedRest spec2 c from rfl, Pipeline.ownSems0_none]
    iintro HS
    isplitr; · iempintro
    isplitr; · iempintro
    iexact HS
  hexit c := exit2 V c

end Cert.Proof.K

end
-- ==== Proof.TileGeom.lean ====
/-
  THE TASK'S WINDOWS: the block of the list and of the result it addresses, the five windows of its two scratch buffers the five
  gathers go through, and the contents the five gathers leave in the row scratch: row `r` is the table's row that word `r` of the
  list scratch names.
-/
module

public import proofs.«01_k».proof.Proof.Base

@[expose] public section

noncomputable section

namespace Cert.Proof.K

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S20480 EltTy.i32)
local notation "xV" => (Memref.whole Cert.KernelIdeal.main_v1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S20480x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)

/-! ## The task's place and blocks -/

abbrev cV (L : grid0.Coords) : Fin τ.nSC := (L 0).castLE hcore0
abbrev jV (L : grid0.Coords) : Fin τ.nSub := (L 1).castLE hsub0
/-- The mesh has 2 cores -/
theorem bound_zero : grid0.bound 0 = 2 := rfl
/-- of 16 subcores. -/
theorem bound_one : grid0.bound 1 = 16 := rfl
/-- The block of the task at `L`. -/
abbrev kL (L : grid0.Coords) : Fin 32 := kOf (Fin.cast bound_zero (L 0)) (Fin.cast bound_one (L 1))

abbrev irowK (L : grid0.Coords) : Rect S20480 := Rect.unit (s := S20480) (k0_off1 L) S640.size (k0_off1_inb L)
abbrev orowK (L : grid0.Coords) : Rect S20480x128 := Rect.unit (s := S20480x128) (k0_off2 L) S640x128.size (k0_off2_inb L)
abbrev iRowK (L : grid0.Coords) : Memref sig .scVector .hbm S640 .i32 := (iV).slice (irowK L) (fun _ => rfl)
abbrev oRowK (L : grid0.Coords) : Memref sig .scVector .hbm S640x128 .f32 := (oV).slice (orowK L) (fun _ => rfl)
abbrev xAllK : Memref sig .scVector .hbm S100000x128 .f32 :=
  (xV).slice (Rect.unit (s := S100000x128) ![0, 0] S100000x128.size inb_S100000x128_S100000x128_0_0) (fun _ => rfl)

/-- The slice of the list that a subcore takes is its block. -/
theorem irowK_eq (L : grid0.Coords) : irowK L = irow (kL L) := by
  unfold irowK irow Rect.part Rect.block
  congr 1 <;> funext a
  · rw [k0_off1_eq]
    match a with
    | 0 =>
      show 1280 * (L 1).val + 640 * (L 0).val = (2 * (L 1).val + (L 0).val) * 640
      omega
  · match a with
    | 0 => simp [Shape.partSize]
/-- The slice of the result that a subcore writes is its block. -/
theorem orowK_eq (L : grid0.Coords) : orowK L = orow (kL L) := by
  unfold orowK orow Rect.part Rect.block
  congr 1 <;> funext a
  · rw [k0_off2_eq]
    match a with
    | 0 =>
      show 1280 * (L 1).val + 640 * (L 0).val = (2 * (L 1).val + (L 0).val) * 640
      omega
    | 1 => simp [Shape.partIx, Shape.partSize]
  · match a with
    | 0 => simp [Shape.partSize]
    | 1 => simp [Shape.partSize]

/-- That slice covers the block's indices, -/
theorem set_iRowK (L : grid0.Coords) : (iRowK L).view.set = iRowSet (kL L) := by
  show ((iV).view.slice (irowK L)).set = (irow (kL L)).set
  rw [View.set_slice, irowK_eq]; exact Finset.map_refl
/-- and the result's likewise. -/
theorem set_oRowK (L : grid0.Coords) : (oRowK L).view.set = oRowSet (kL L) := by
  show ((oV).view.slice (orowK L)).set = (orow (kL L)).set
  rw [View.set_slice, orowK_eq]; exact Finset.map_refl

/-- The list's block, held through the slice. -/
theorem pts_iRowK (d : Dev nD) (L : grid0.Coords) (f : S20480.Idx → Elt F .i32) :
    ((iRowK L).view.loc (V d (cV L) (jV L)) ↦[(iRowK L).view.set]{fullShare} f : sProp 𝕄) = iRowPts f d (kL L) := by
  rw [set_iRowK]
/-- The result's block, held through the slice. -/
theorem pts_oRowK (d : Dev nD) (L : grid0.Coords) (f : S20480x128.Idx → Elt F .f32) :
    ((oRowK L).view.loc (V d (cV L) (jV L)) ↦[(oRowK L).view.set]{fullShare} f : sProp 𝕄) = oRowPts f d (kL L) := by
  rw [set_oRowK]

/-- The row of the list (and of the result) under entry `j` of the task's block. -/
def rowG (L : grid0.Coords) (j : Fin 640) : Fin 20480 := ⟨1280 * (L 1).val + 640 * (L 0).val + j.val, by
  have h0 : (L 0).val < 2 := (L 0).isLt
  have h1 : (L 1).val < 16 := (L 1).isLt
  omega⟩

/-- Where an index of the slice of the list lies in the list. -/
theorem iRowK_emb (L : grid0.Coords) (j : S640.Idx) : (iRowK L).view.emb j = (ix1 (rowG L (j 0)) : S20480.Idx) := by
  funext a
  match a with
  | 0 =>
    apply Fin.ext
    show k0_off1 L 0 + 1 * (j 0).val = _
    rw [k0_off1_eq]; simp [rowG]

/-- Where an index of the slice of the result lies in the result. -/
theorem oRowK_emb (L : grid0.Coords) (y : S640x128.Idx) : (oRowK L).view.emb y = (ix2 (rowG L (y 0)) (y 1) : S20480x128.Idx) := by
  funext a
  match a with
  | 0 =>
    apply Fin.ext
    show k0_off2 L 0 + 1 * (y 0).val = _
    rw [k0_off2_eq]; simp [rowG]
  | 1 =>
    apply Fin.ext
    show k0_off2 L 1 + 1 * (y 1).val = _
    rw [k0_off2_eq]; simp

/-- The task's block of the list. -/
def listT (I : S20480.Idx → Elt F .i32) (L : grid0.Coords) : S640.Idx → Elt F .i32 := fun j => I (ix1 (rowG L (j 0)))

/-- What the slice of the list reads. -/
theorem read_iRowK (I : S20480.Idx → Elt F .i32) (L : grid0.Coords) : (iRowK L).view.read (Elt F) I = listT I L := by
  funext j
  exact (View.read_apply _ _).trans ((cast_eq _ _).trans (congrArg I (iRowK_emb L j)))

/-- The gathered rows of the task's block, written to it, are the gathered rows there. -/
theorem write_oRowK (I : S20480.Idx → Elt F .i32) (X : S100000x128.Idx → Elt F .f32) (O : S20480x128.Idx → Elt F .f32) (L : grid0.Coords) :
    ∀ i ∈ oRowSet (kL L), (oRowK L).view.write (Elt F) O (gathT (listT I L) X) Finset.univ i = gath I X i := by
  intro i hi
  rw [← set_oRowK] at hi
  obtain ⟨y, -, rfl⟩ := Finset.mem_map.mp hi
  refine (View.write_emb_of_mem _ _ (Finset.mem_univ y)).trans ((cast_eq _ _).trans ?_)
  rw [oRowK_emb]
  rfl

/-! ## The five windows -/

/-- A chunk of the row buffer lies inside it, -/
theorem inbR (g : Fin 5) : ∀ a, (![128 * g.val, 0] : Fin 2 → Nat) a + S128x128.size a ≤ S640x128.size a := by revert g; decide
/-- and a chunk of the copied list inside that. -/
theorem inbL (g : Fin 5) : ∀ a, (![128 * g.val] : Fin 1 → Nat) a + S128.size a ≤ S640.size a := by revert g; decide
abbrev dW (g : Fin 5) : Memref sig .scVector .vmem S128x128 .f32 := (rV).slice (Rect.unit (s := S640x128) ![128 * g.val, 0] S128x128.size (inbR g)) (fun _ => rfl)
abbrev lW (g : Fin 5) : Memref sig .scVector .vmem S128 .i32 := (sV).slice (Rect.unit (s := S640) ![128 * g.val] S128.size (inbL g)) (fun _ => rfl)

/-- The copied list divides into five chunks, -/
theorem ldiv : 5 ∣ S640.size 0 := ⟨128, rfl⟩
/-- and so does the row buffer. -/
theorem ddiv : 5 ∣ S640x128.size 0 := ⟨128, rfl⟩

/-- A chunk of the copied list is one of its five parts, -/
theorem lW_rect (g : Fin 5) : Rect.unit (s := S640) ![128 * g.val] S128.size (inbL g) = Rect.part (s := S640) (a₀ := 0) ldiv g := by
  unfold Rect.part Rect.block
  congr 1 <;> funext a
  · match a with
    | 0 => simp [Shape.partIx, Shape.partSize]; omega
  · match a with
    | 0 => simp [Shape.partSize]
/-- and a chunk of the row buffer one of its five. -/
theorem dW_rect (g : Fin 5) : Rect.unit (s := S640x128) ![128 * g.val, 0] S128x128.size (inbR g) = Rect.part (s := S640x128) (a₀ := 0) ddiv g := by
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- The indices of a chunk of the copied list, -/
theorem set_lW (g : Fin 5) : (lW g).view.set = (Rect.part (s := S640) (a₀ := 0) ldiv g).set := by
  show ((sV).view.slice _).set = _
  rw [View.set_slice, lW_rect]; exact Finset.map_refl
/-- and of a chunk of the row buffer. -/
theorem set_dW (g : Fin 5) : (dW g).view.set = (Rect.part (s := S640x128) (a₀ := 0) ddiv g).set := by
  show ((rV).view.slice _).set = _
  rw [View.set_slice, dW_rect]; exact Finset.map_refl

/-- The list scratch held whole is its five windows. -/
theorem sV_windows (d : Dev nD) (L : grid0.Coords) (f : S640.Idx → Elt F .i32) :
    ((sV).view.loc (V d (cV L) (jV L)) ↦{fullShare} f : sProp 𝕄)
      = bigSep Finset.univ fun g : Fin 5 => (lW g).view.loc (V d (cV L) (jV L)) ↦[(lW g).view.set]{fullShare} f := by
  rw [show (bigSep Finset.univ fun g : Fin 5 => (lW g).view.loc (V d (cV L) (jV L)) ↦[(lW g).view.set]{fullShare} f : sProp 𝕄)
      = bigSep Finset.univ fun g : Fin 5 => (sV).view.loc (V d (cV L) (jV L)) ↦[(Rect.part (s := S640) (a₀ := 0) ldiv g).set]{fullShare} f from
      bigSep_congr fun g _ => by rw [set_lW],
    ← pointsTo_biUnion Finset.univ (ℓ := (sV).view.loc (V d (cV L) (jV L))) (fun g : Fin 5 => (Rect.part (s := S640) (a₀ := 0) ldiv g).set)
      fun _ _ _ _ h => Rect.part_disjoint ldiv h, Rect.biUnion_part ldiv]

/-- The row scratch held whole is its five windows. -/
theorem rV_windows (d : Dev nD) (L : grid0.Coords) (f : S640x128.Idx → Elt F .f32) :
    ((rV).view.loc (V d (cV L) (jV L)) ↦{fullShare} f : sProp 𝕄)
      = bigSep Finset.univ fun g : Fin 5 => (dW g).view.loc (V d (cV L) (jV L)) ↦[(dW g).view.set]{fullShare} f := by
  rw [show (bigSep Finset.univ fun g : Fin 5 => (dW g).view.loc (V d (cV L) (jV L)) ↦[(dW g).view.set]{fullShare} f : sProp 𝕄)
      = bigSep Finset.univ fun g : Fin 5 => (rV).view.loc (V d (cV L) (jV L)) ↦[(Rect.part (s := S640x128) (a₀ := 0) ddiv g).set]{fullShare} f from
      bigSep_congr fun g _ => by rw [set_dW],
    ← pointsTo_biUnion Finset.univ (ℓ := (rV).view.loc (V d (cV L) (jV L))) (fun g : Fin 5 => (Rect.part (s := S640x128) (a₀ := 0) ddiv g).set)
      fun _ _ _ _ h => Rect.part_disjoint ddiv h, Rect.biUnion_part ddiv]

/-- The slice of the whole table leaves every index where it is, -/
theorem xAllK_emb (x : S100000x128.Idx) : (xAllK).view.emb x = x := by
  funext a
  match a with
  | 0 =>
    apply Fin.ext
    show 0 + 1 * (x 0).val = _
    omega
  | 1 =>
    apply Fin.ext
    show 0 + 1 * (x 1).val = _
    omega

/-- and covers the table. -/
theorem set_xAllK : (xAllK).view.set = Finset.univ :=
  Finset.eq_univ_of_forall fun x => Finset.mem_map.mpr ⟨x, Finset.mem_univ _, xAllK_emb x⟩

/-- The table held at a share is its five pieces. -/
theorem xV_pieces (d : Dev nD) (L : grid0.Coords) (q : PosShare TreeShare) (f : S100000x128.Idx → Elt F .f32) :
    (xLoc d ↦{q} f : sProp 𝕄)
      = bigSep Finset.univ fun g : Fin 5 => (xAllK).view.loc (V d (cV L) (jV L)) ↦[(xAllK).view.set]{pieceOf q 5 (by decide) g} f := by
  rw [set_xAllK]
  exact pointsTo_piecesOf (ℓ := xLoc d) Finset.univ f (show 0 < 5 by decide) q

/-! ## What a gather leaves -/

/-- Where an index of a chunk lies in the copied list. -/
theorem lW_emb (g : Fin 5) (j : S128.Idx) :
    (lW g).view.emb j = (ix1 ⟨128 * g.val + (j 0).val, by have h0 : (j 0).val < 128 := (j 0).isLt; omega⟩ : S640.Idx) := by
  funext a
  match a with
  | 0 =>
    apply Fin.ext
    show 128 * g.val + 1 * (j 0).val = _
    simp
/-- Where an index of a chunk lies in the row buffer. -/
theorem dW_emb (g : Fin 5) (y : S128x128.Idx) :
    (dW g).view.emb y = (ix2 ⟨128 * g.val + (y 0).val, by have h0 : (y 0).val < 128 := (y 0).isLt; omega⟩ (y 1) : S640x128.Idx) := by
  funext a
  match a with
  | 0 =>
    apply Fin.ext
    show 128 * g.val + 1 * (y 0).val = _
    simp
  | 1 =>
    apply Fin.ext
    show 0 + 1 * (y 1).val = _
    simp

/-- What a chunk of the copied list reads. -/
theorem read_lW (I : S640.Idx → Elt F .i32) (g : Fin 5) (j : S128.Idx) :
    (lW g).view.read (Elt F) I j = I (ix1 ⟨128 * g.val + (j 0).val, by have h0 : (j 0).val < 128 := (j 0).isLt; omega⟩) :=
  (View.read_apply _ _).trans ((cast_eq _ _).trans (congrArg I (lW_emb g j)))

/-- The words a gather reads name rows when the list's do. -/
theorem lW_inb {I : S640.Idx → Elt F .i32} (hI : ∀ j, (I j).toNat < 100000) (g : Fin 5) :
    ∀ x, ((lW g).view.read (Elt F) I x).toNat < S100000x128.size gathers_S100000x128_S128x128.axis := by
  intro x; rw [read_lW]; exact hI _

/-- What gather `g` leaves in its window is the gathered rows there. -/
theorem write_dW {I : S640.Idx → Elt F .i32} (hI : ∀ j, (I j).toNat < 100000) (X : S100000x128.Idx → Elt F .f32) (f : S640x128.Idx → Elt F .f32) (g : Fin 5) :
    ∀ i ∈ (dW g).view.set, (dW g).view.write (Elt F) f
        (gatherPayload gathers_S100000x128_S128x128 ((xAllK).view.read (Elt F) X) (rows ((lW g).view.read (Elt F) I) rfl (lW_inb hI g))) Finset.univ i
      = gathT I X i := by
  intro i hi
  obtain ⟨y, -, rfl⟩ := Finset.mem_map.mp hi
  refine (View.write_emb_of_mem _ _ (Finset.mem_univ y)).trans ((cast_eq _ _).trans ?_)
  rw [dW_emb]
  unfold gatherPayload gathT
  refine (View.read_apply _ _).trans ((cast_eq _ _).trans (congrArg X ?_))
  set z := Shape.Gathers.idx gathers_S100000x128_S128x128 (rows ((lW g).view.read (Elt F) I) rfl (lW_inb hI g)) y with hz
  have e0 : (z 0).val = (I (ix1 ⟨128 * g.val + (y 0).val, by have h0 : (y 0).val < 128 := (y 0).isLt; omega⟩)).toNat := by
    have h1 := Shape.Gathers.idx_axis gathers_S100000x128_S128x128 (rows ((lW g).view.read (Elt F) I) rfl (lW_inb hI g)) y
    have h2 : (z 0).val = ((rows ((lW g).view.read (Elt F) I) rfl (lW_inb hI g)) (y 0)).val := congrArg Fin.val h1
    rw [h2]
    unfold rows
    show (View.read (Elt F) (lW g).view I _).toNat = _
    rw [read_lW]
    have h3 : ((S128.rowMajor.symm (Fin.cast rfl (y 0))) 0).val = (y 0).val := by
      rw [← Shape.rowMajor_val_one, Equiv.apply_symm_apply]; rfl
    congr 3
    exact Fin.ext (congrArg (128 * g.val + ·) h3)
  have e1 : (z 1).val = (y 1).val := Shape.Gathers.idx_of_ne gathers_S100000x128_S128x128 _ y 1 (by decide)
  funext a
  match a with
  | 0 =>
    apply Fin.ext
    show 0 + 1 * (z 0).val = _
    rw [e0]
    simp [rowIx_val (hI _)]
  | 1 =>
    apply Fin.ext
    show 0 + 1 * (z 1).val = _
    rw [e1]; simp

end Cert.Proof.K

end
-- ==== Proof.Tile.lean ====
/-
  THE TASK: the list's block is fetched, the five gathers are started on one semaphore and waited for (one batch of 640 rows), and
  the gathered rows are written out over the task's block of the result.
-/
module

public import proofs.«01_k».proof.Proof.TileGeom

@[expose] public section

noncomputable section

namespace Cert.Proof.K

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S20480 EltTy.i32)
local notation "xV" => (Memref.whole Cert.KernelIdeal.main_v1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S20480x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)

/-! ## The batch of rows -/

/-- A product over five is its five factors. -/
theorem bigSep_fin5 {M : Type} [URA M] (Φ : Fin 5 → sProp M) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

/-- Row `j` of gather `g`, numbered in the batch. -/
abbrev rowNo (g : Fin 5) (j : Fin 128) : Fin (5 * 128) := finProdFinEquiv (g, j)

/-- The credit of one row. -/
abbrev rowN : ℕ := ((dW 0).slice (S128x128.rowRect gathers_S100000x128_S128x128.axis' (0 : Fin 128)) (S128x128.stride_rowRect gathers_S100000x128_S128x128.axis' (0 : Fin 128))).view.dmaCredit

/-- Every row of every chunk moves the same credit, -/
theorem rowN_eq (g : Fin 5) (j : Fin (S128x128.size gathers_S100000x128_S128x128.axis')) :
    ((dW g).slice (S128x128.rowRect gathers_S100000x128_S128x128.axis' j) (S128x128.stride_rowRect gathers_S100000x128_S128x128.axis' j)).view.dmaCredit = rowN := rfl
/-- which is positive. -/
theorem rowN_pos : 0 < rowN := by decide
/-- A chunk's wait takes the credit of its 128 rows. -/
theorem dW_credit (g : Fin 5) : (dW g).view.dmaCredit = 128 * rowN := by
  show (dW 0).view.dmaCredit = 128 * rowN
  decide

/-- The rows' payload of gather `g`. -/
abbrev gPay (I : S640.Idx → Elt F .i32) (hI : ∀ j, (I j).toNat < 100000) (X : S100000x128.Idx → Elt F .f32) (g : Fin 5) : S128x128.Idx → Elt F .f32 :=
  gatherPayload gathers_S100000x128_S128x128 ((xAllK).view.read (Elt F) X) (rows ((lW g).view.read (Elt F) I) rfl (lW_inb hI g))

/-- A chunk has rows. -/
theorem pos128 : 0 < S128x128.size gathers_S100000x128_S128x128.axis' := by decide

/-- What row `j` of gather `g` hands back. -/
def rowD (d : Dev nD) (L : grid0.Coords) (q : PosShare TreeShare) (I : S640.Idx → Elt F .i32) (hI : ∀ j, (I j).toNat < 100000)
    (X : S100000x128.Idx → Elt F .f32) (f : S640x128.Idx → Elt F .f32) (g : Fin 5) (j : Fin 128) : sProp 𝕄 :=
  rowDone (V d (cV L) (jV L)) xAllK (dW g) gathers_S100000x128_S128x128 (lW g) rfl pos128 (pieceOf q 5 (by decide) g) fullShare X f I (gPay I hI X g) j

/-- What transfer `t` of the batch hands back. -/
def deliv (d : Dev nD) (L : grid0.Coords) (q : PosShare TreeShare) (I : S640.Idx → Elt F .i32) (hI : ∀ j, (I j).toNat < 100000)
    (X : S100000x128.Idx → Elt F .f32) (f : S640x128.Idx → Elt F .f32) (t : Fin (5 * 128)) : sProp 𝕄 :=
  rowD d L q I hI X f (finProdFinEquiv.symm t).1 (finProdFinEquiv.symm t).2

/-- A chunk's delivered row can be stored in the batch. -/
instance deliv_storable (d : Dev nD) (L : grid0.Coords) (q : PosShare TreeShare) (I : S640.Idx → Elt F .i32) (hI : ∀ j, (I j).toNat < 100000)
    (X : S100000x128.Idx → Elt F .f32) (f : S640x128.Idx → Elt F .f32) (t : Fin (5 * 128)) :
    Storable (upEmb : UEmb _ 𝕄) (deliv d L q I hI X f t) :=
  rowDone_storable _ _ _ _ _ _ _ _ _ _ _ _ _ _

/-- The delivery that has a row's number in the batch is that chunk's row. -/
theorem deliv_rowNo (d : Dev nD) (L : grid0.Coords) (q : PosShare TreeShare) (I : S640.Idx → Elt F .i32) (hI : ∀ j, (I j).toNat < 100000)
    (X : S100000x128.Idx → Elt F .f32) (f : S640x128.Idx → Elt F .f32) (g : Fin 5) (j : Fin 128) :
    (deliv d L q I hI X f (rowNo g j) : sProp 𝕄) = rowD d L q I hI X f g j := by
  unfold deliv rowNo; rw [Equiv.symm_apply_apply]

/-- A family over the batch is the gathers' families over their rows. -/
theorem batch_rows (Φ : Fin (5 * 128) → sProp 𝕄) :
    bigSep Finset.univ Φ = bigSep Finset.univ fun g : Fin 5 => bigSep Finset.univ fun j : Fin 128 => Φ (rowNo g j) := by
  rw [bigSep_univ_equiv finProdFinEquiv, bigSep_univ_prod]

/-- The rows of one gather, all back, are its three operands back, its window holding the gathered rows. -/
theorem rowD_join (d : Dev nD) (L : grid0.Coords) (q : PosShare TreeShare) (I : S640.Idx → Elt F .i32) (hI : ∀ j, (I j).toNat < 100000)
    (X : S100000x128.Idx → Elt F .f32) (f : S640x128.Idx → Elt F .f32) (g : Fin 5) :
    (bigSep Finset.univ fun j : Fin 128 => rowD d L q I hI X f g j : sProp 𝕄)
      ⊢ iprop(((dW g).view.loc (V d (cV L) (jV L)) ↦[(dW g).view.set]{fullShare} gathT I X)
          ∗ ((lW g).view.loc (V d (cV L) (jV L)) ↦[(lW g).view.set]{fullShare} I)
          ∗ ((xAllK).view.loc (V d (cV L) (jV L)) ↦[(xAllK).view.set]{pieceOf q 5 (by decide) g} X)) := by
  refine (rowDone_join (V d (cV L) (jV L)) xAllK (dW g) gathers_S100000x128_S128x128 (lW g) rfl pos128 (pieceOf q 5 (by decide) g) fullShare X f I (gPay I hI X g)).trans ?_
  rw [pointsTo_congr (fun i hi => write_dW hI X f g i hi)]

variable [FloatOps F]

/-- One gather issued into the batch. -/
theorem gather_step (d : Dev nD) (L : grid0.Coords) (q : PosShare TreeShare) (I : S640.Idx → Elt F .i32) (hI : ∀ j, (I j).toNat < 100000)
    (X : S100000x128.Idx → Elt F .f32) (f : S640x128.Idx → Elt F .f32) (g : Fin 5) {γ : Fin (5 * 128) → ℕ} {γ₀ : ℕ} {κ : ℕ} {α : Type}
    {Q : α → sProp 𝕄} {k : PUnit → Prog (TpuEff nD τ sig (Elt F) Λ₀ (V d (cV L) (jV L)).2) α} :
    iprop(inv κ (Transfers.batchBody countersEmb (V d (cV L) (jV L), SemLoc.dma cc0_scratch2.sem) rowN (deliv d L q I hI X f) γ γ₀)
        ∗ ((xAllK).view.loc (V d (cV L) (jV L)) ↦[(xAllK).view.set]{pieceOf q 5 (by decide) g} X)
        ∗ ((dW g).view.loc (V d (cV L) (jV L)) ↦[(dW g).view.set]{fullShare} f)
        ∗ ((lW g).view.loc (V d (cV L) (jV L)) ↦[(lW g).view.set]{fullShare} I)
        ∗ bigSep Finset.univ (fun j : Fin 128 => count countersEmb (γ (rowNo g j)) 0))
      ⊢ iprop((cred (tallyAt (V d (cV L) (jV L), SemLoc.dma cc0_scratch2.sem) none (128 * rowN)) -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather rfl xAllK (dW g) gathers_S100000x128_S128x128 (lW g) rfl cc0_scratch2.sem (View.wordExact_bits rfl) rfl (Or.inl rfl) >>= k) Q) :=
  wp_gatherInBatch (defs := defs₀ (F := F)) (src := xAllK) (dst := dW g) (hg := gathers_S100000x128_S128x128) (offs := lW g) (hn := rfl)
    (sem := cc0_scratch2.sem) (q := pieceOf q 5 (by decide) g) (qo := fullShare) (fs := X) (fd := f) (fo := I) (γ := γ) (γ₀ := γ₀) (κ := κ) (Q := Q) (k := k)
    countersEmb 𝒱₀ (V d (cV L) (jV L)) none (none : HIx 1) rowN (128 * rowN) (deliv d L q I hI X f) (fun j => rowNo g j)
    pos128 (rowN_eq g) rfl (lW_inb hI g) (fun j => Entails.of_eq (deliv_rowNo d L q I hI X f g j).symm)

/-- A wait that does not end the batch: it takes a gather's credit and hands nothing back. -/
theorem wait_step (d : Dev nD) (L : grid0.Coords) (D : Fin (5 * 128) → sProp 𝕄) (g : Fin 5) (u : ℕ) (hu : u + 128 * rowN ≤ rowN * (5 * 128))
    {O : CellTallies nD τ sig (HIx 1)} {W : Waits sig (HIx 1)} {α : Type}
    {Q : α → sProp 𝕄} {k : PUnit → Prog (TpuEff nD τ sig (Elt F) Λ₀ (V d (cV L) (jV L)).2) α} :
    iprop(Transfers.Batch countersEmb (V d (cV L) (jV L)) (.dma cc0_scratch2.sem) (none : HIx 1) rowN D (5 * 128) u ∗ owes (V d (cV L) (jV L)) O W
        ∗ MayWait (V d (cV L) (jV L)) (.dma cc0_scratch2.sem) none O)
      ⊢ iprop((iprop(Transfers.Batch countersEmb (V d (cV L) (jV L)) (.dma cc0_scratch2.sem) (none : HIx 1) rowN D (5 * 128) (u + 128 * rowN)
            ∗ owes (V d (cV L) (jV L)) O (insert (SemLoc.dma cc0_scratch2.sem, none) W))
          -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.waitIndirectGather cc0_scratch2.sem xAllK (dW g) (View.wordExact_bits rfl) (View.wordExact_bits rfl) >>= k) Q) :=
  Transfers.wp_waitBatchMulO (defs := defs₀ (F := F)) (srcw := xAllK) (dstw := dW g) (sem := cc0_scratch2.sem) (k := k) (D := D) (O := O) (W := W) (Q := Q)
    countersEmb 𝒱₀ (V d (cV L) (jV L)) none (none : HIx 1) 128 (dW_credit g) hu

/-- The wait that ends it: every row comes back. -/
theorem wait_last (d : Dev nD) (L : grid0.Coords) (D : Fin (5 * 128) → sProp 𝕄) (g : Fin 5) (u : ℕ) (hu : u + 128 * rowN = rowN * (5 * 128))
    {O : CellTallies nD τ sig (HIx 1)} {W : Waits sig (HIx 1)} {α : Type}
    {Q : α → sProp 𝕄} {k : PUnit → Prog (TpuEff nD τ sig (Elt F) Λ₀ (V d (cV L) (jV L)).2) α} :
    iprop(Transfers.Batch countersEmb (V d (cV L) (jV L)) (.dma cc0_scratch2.sem) (none : HIx 1) rowN D (5 * 128) u ∗ owes (V d (cV L) (jV L)) O W
        ∗ MayWait (V d (cV L) (jV L)) (.dma cc0_scratch2.sem) none O)
      ⊢ iprop((iprop(bigSep Finset.univ D ∗ semVal (V d (cV L) (jV L), .dma cc0_scratch2.sem) 0
            ∗ owes (V d (cV L) (jV L)) O (insert (SemLoc.dma cc0_scratch2.sem, none) W))
          -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.waitIndirectGather cc0_scratch2.sem xAllK (dW g) (View.wordExact_bits rfl) (View.wordExact_bits rfl) >>= k) Q) :=
  Transfers.wp_waitBatchAllO (defs := defs₀ (F := F)) (srcw := xAllK) (dstw := dW g) (sem := cc0_scratch2.sem) (k := k) (D := D) (O := O) (W := W) (Q := Q)
    countersEmb 𝒱₀ (V d (cV L) (jV L)) none (none : HIx 1) (dW_credit g) rowN_pos hu

omit [FloatOps F] in
/-- The five gathers' credit is the whole batch outstanding, nothing of it consumed. -/
theorem batch_intro (d : Dev nD) (L : grid0.Coords) (D : Fin (5 * 128) → sProp 𝕄) (γ : Fin (5 * 128) → ℕ) (γ₀ κ : ℕ) :
    (iprop(inv κ (Transfers.batchBody countersEmb (V d (cV L) (jV L), SemLoc.dma cc0_scratch2.sem) rowN D γ γ₀) ∗ count countersEmb γ₀ 0
        ∗ cred (tallyAt (V d (cV L) (jV L), SemLoc.dma cc0_scratch2.sem) none (128 * rowN)) ∗ cred (tallyAt (V d (cV L) (jV L), SemLoc.dma cc0_scratch2.sem) none (128 * rowN))
        ∗ cred (tallyAt (V d (cV L) (jV L), SemLoc.dma cc0_scratch2.sem) none (128 * rowN)) ∗ cred (tallyAt (V d (cV L) (jV L), SemLoc.dma cc0_scratch2.sem) none (128 * rowN))
        ∗ cred (tallyAt (V d (cV L) (jV L), SemLoc.dma cc0_scratch2.sem) none (128 * rowN))) : sProp 𝕄)
      ⊢ Transfers.Batch countersEmb (V d (cV L) (jV L)) (.dma cc0_scratch2.sem) (none : HIx 1) rowN D (5 * 128) 0 := by
  generalize rowN = N
  unfold Transfers.Batch
  rw [show 5 * 128 * N - 0 = 128 * N + (128 * N + (128 * N + (128 * N + 128 * N))) by omega, ← tallyAt_add, ← tallyAt_add, ← tallyAt_add, ← tallyAt_add]
  rw [show (Transfers.pending (5 * 128) : Finset (Fin (5 * 128))) = ∅ from
    Finset.filter_false_of_mem fun t _ => Nat.not_le.mpr t.isLt]
  iintro ⟨#Hinv, H0, C0, C1, C2, C3, C4⟩
  iexists γ, γ₀, κ
  isplitr; · iexact Hinv
  isplitr; · rw [bigSep_empty]; iempintro
  isplitl [H0]; · iexact H0
  isplitl [C0]; · iexact C0
  isplitl [C1]; · iexact C1
  isplitl [C2]; · iexact C2
  isplitl [C3]; · iexact C3
  iexact C4

/-! ## What the task holds from the start -/

abbrev cellOf (d : Dev nD) (L : grid0.Coords) (x : DmaSem sig) : GSem nD τ sig := (V d (cV L) (jV L), .dma x)

omit [FloatOps F] in
/-- The three semaphores of the task are among its subcore's own, each at zero; the rest of those. -/
theorem ownSems_split (d : Dev nD) (L : grid0.Coords) :
    (ownSems0 (V d (cV L) (jV L)) : sProp 𝕄)
      = iprop(semVal (cellOf d L cc0_scoped0.sem) 0 ∗ semVal (cellOf d L cc0_scratch2.sem) 0 ∗ semVal (cellOf d L cc0_scoped1.sem) 0
          ∗ bigSep ((((ownCells (V d (cV L) (jV L))).erase (cellOf d L cc0_scoped0.sem)).erase (cellOf d L cc0_scratch2.sem)).erase (cellOf d L cc0_scoped1.sem))
              fun g => semVal g 0) := by
  have own : ∀ x : DmaSem sig, (SemLoc.dma x : SemLoc sig).isScoped .scVector = true → cellOf d L x ∈ ownCells (V d (cV L) (jV L)) :=
    fun x hx => mem_ownCells.mpr ⟨rfl, hx⟩
  have ne : ∀ x y : DmaSem sig, x ≠ y → cellOf d L x ≠ cellOf d L y := fun x y h e => h (SemLoc.dma.inj (Prod.mk.inj e).2)
  unfold SparseCore.Cfg.ownSems0
  rw [SparseCore.bigSep_erase' (own cc0_scoped0.sem (by decide)),
    SparseCore.bigSep_erase' (Finset.mem_erase.mpr ⟨ne cc0_scratch2.sem cc0_scoped0.sem (by decide), own cc0_scratch2.sem (by decide)⟩),
    SparseCore.bigSep_erase' (Finset.mem_erase.mpr ⟨ne cc0_scoped1.sem cc0_scratch2.sem (by decide),
      Finset.mem_erase.mpr ⟨ne cc0_scoped1.sem cc0_scoped0.sem (by decide), own cc0_scoped1.sem (by decide)⟩⟩)]

omit [FloatOps F] in
/-- The two scratch buffers are among the subcore's own; the rest of those. -/
theorem ownBufs_split (d : Dev nD) (L : grid0.Coords) :
    (ownBufs (V d (cV L) (jV L)) : sProp 𝕄)
      = iprop((∃ f : S640.Idx → Elt F .i32, (sV).view.loc (V d (cV L) (jV L)) ↦{fullShare} f)
          ∗ (∃ f : S640x128.Idx → Elt F .f32, (rV).view.loc (V d (cV L) (jV L)) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

omit [FloatOps F] in
/-- The list scratch, its fetch landed, holds the task's block of the list. -/
theorem fetched (d : Dev nD) (L : grid0.Coords) (I : S20480.Idx → Elt F .i32) (fs : S640.Idx → Elt F .i32) (pay : S640.Idx → Elt F .i32)
    (h : pay = (iRowK L).view.read (Elt F) I) :
    ((sV).view.loc (V d (cV L) (jV L)) ↦{fullShare} View.write (Elt F) (sV).view fs pay Finset.univ : sProp 𝕄)
      = (sV).view.loc (V d (cV L) (jV L)) ↦{fullShare} listT I L := by
  subst h; rw [View.write_whole_univ, read_iRowK]

omit [FloatOps F] in
/-- Every row back is the three operands back, the row scratch holding the gathered rows. -/
theorem rows_join (d : Dev nD) (L : grid0.Coords) (q : PosShare TreeShare) (I : S640.Idx → Elt F .i32) (hI : ∀ j, (I j).toNat < 100000)
    (X : S100000x128.Idx → Elt F .f32) (f : S640x128.Idx → Elt F .f32) :
    (bigSep Finset.univ (deliv d L q I hI X f) : sProp 𝕄)
      ⊢ iprop(((rV).view.loc (V d (cV L) (jV L)) ↦{fullShare} gathT I X) ∗ ((sV).view.loc (V d (cV L) (jV L)) ↦{fullShare} I) ∗ (xLoc d ↦{q} X)) := by
  rw [batch_rows, rV_windows, sV_windows, xV_pieces d L q X, ← bigSep_sep', ← bigSep_sep']
  exact bigSep_mono fun g _ => (Entails.of_eq (bigSep_congr fun j _ => deliv_rowNo d L q I hI X f g j)).trans (rowD_join d L q I hI X f g)

omit [FloatOps F] in
/-- The task's block, the gathered rows written to it. -/
theorem written (d : Dev nD) (L : grid0.Coords) (I : S20480.Idx → Elt F .i32) (X : S100000x128.Idx → Elt F .f32) (O₀ : S20480x128.Idx → Elt F .f32)
    (pay : S640x128.Idx → Elt F .f32) (h : pay = (rV).view.read (Elt F) (gathT (listT I L) X)) :
    ((oRowK L).view.loc (V d (cV L) (jV L)) ↦[(oRowK L).view.set]{fullShare} (oRowK L).view.writes (Elt F) O₀ [⟨Rect.whole S640x128, pay⟩] : sProp 𝕄)
      = oRowPts (gath I X) d (kL L) := by
  subst h
  rw [← pts_oRowK, ← View.write_univ_eq_writes_whole, View.writes_nil]
  refine pointsTo_congr fun i hi => ?_
  rw [set_oRowK] at hi
  exact write_oRowK I X O₀ L i hi

set_option maxHeartbeats 400000 in
/-- The task at `L` of device `d`. -/
theorem tile_body (hF : (K (F := F)).Facts) (d : Dev nD) (L : grid0.Coords) (I : S20480.Idx → Elt F .i32) (X : S100000x128.Idx → Elt F .f32)
    (O₀ : S20480x128.Idx → Elt F .f32) (hI : ∀ j, (I j).toNat < 100000)
    (O : CellTallies nD τ sig (HIx 1)) (W : Waits sig (HIx 1)) (hO : ∀ g, O g none = 0) :
    iprop(levAts (K (F := F)).L (K (F := F)).lev ∗ emp ∗ goPts I X O₀ d (kL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L xV (Memref.isWhole_whole _) iV (Memref.isWhole_whole _) oV (Memref.isWhole_whole _)
            sV (Memref.isWhole_whole _) rV (Memref.isWhole_whole _) cc0_scratch2 cc0_scoped0 cc0_scoped1)
          fun _ => iprop(goPts I X (gath I X) d (kL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  simp only [k0_part1_eq_skeleton]; unfold k0_part1_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems_split, ownBufs_split]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hi := (Entails.of_eq (pts_iRowK (F := F) d L _).symm) $$ Hi
  ihave Ho := (Entails.of_eq (pts_oRowK (F := F) d L _).symm) $$ Ho
  sl_exec
  -- the five gathers: one batch of the 640 rows on the gathers' semaphore
  have hL : ∀ j, (listT I L j).toNat < 100000 := fun j => hI _
  ihave Hs := (Entails.of_eq (fetched (F := F) d L I fs (tile_body.sl.dma0 L I) rfl)) $$ Hs
  ihave Hs := (Entails.of_eq (sV_windows (F := F) d L (listT I L))) $$ Hs
  ihave Hs := (Entails.of_eq (bigSep_fin5 _)) $$ Hs
  icases Hs with ⟨Hs0, Hs1, Hs2, Hs3, Hs4⟩
  ihave Hr := (Entails.of_eq (rV_windows (F := F) d L fr)) $$ Hr
  ihave Hr := (Entails.of_eq (bigSep_fin5 _)) $$ Hr
  icases Hr with ⟨Hr0, Hr1, Hr2, Hr3, Hr4⟩
  ihave Hx := (Entails.of_eq (xV_pieces (F := F) d L (xq (kL L)) X)) $$ Hx
  ihave Hx := (Entails.of_eq (bigSep_fin5 _)) $$ Hx
  icases Hx with ⟨Hx0, Hx1, Hx2, Hx3, Hx4⟩
  imod (Transfers.batch_alloc countersEmb rowN (deliv (F := F) d L (xq (kL L)) (listT I L) hL X fr) (g := cellOf d L cc0_scratch2.sem) (E := Set.univ)) $$ HsemB
    with ⟨%γ, %γ₀, %κ, #Hinv, Hc0, Hγ⟩
  ihave Hγ := (Entails.of_eq (batch_rows (F := F) _)) $$ Hγ
  ihave Hγ := (Entails.of_eq (bigSep_fin5 _)) $$ Hγ
  icases Hγ with ⟨Hγ0, Hγ1, Hγ2, Hγ3, Hγ4⟩
  iapply (gather_step (F := F) d L (xq (kL L)) (listT I L) hL X fr 0 (γ := γ) (γ₀ := γ₀) (κ := κ)) $$ [Hx0 Hr0 Hs0 Hγ0]
  · isplitr; · iexact Hinv
    isplitl [Hx0]; · iexact Hx0
    isplitl [Hr0]; · iexact Hr0
    isplitl [Hs0]; · iexact Hs0
    iexact Hγ0
  iintro C0
  iapply (gather_step (F := F) d L (xq (kL L)) (listT I L) hL X fr 1 (γ := γ) (γ₀ := γ₀) (κ := κ)) $$ [Hx1 Hr1 Hs1 Hγ1]
  · isplitr; · iexact Hinv
    isplitl [Hx1]; · iexact Hx1
    isplitl [Hr1]; · iexact Hr1
    isplitl [Hs1]; · iexact Hs1
    iexact Hγ1
  iintro C1
  iapply (gather_step (F := F) d L (xq (kL L)) (listT I L) hL X fr 2 (γ := γ) (γ₀ := γ₀) (κ := κ)) $$ [Hx2 Hr2 Hs2 Hγ2]
  · isplitr; · iexact Hinv
    isplitl [Hx2]; · iexact Hx2
    isplitl [Hr2]; · iexact Hr2
    isplitl [Hs2]; · iexact Hs2
    iexact Hγ2
  iintro C2
  iapply (gather_step (F := F) d L (xq (kL L)) (listT I L) hL X fr 3 (γ := γ) (γ₀ := γ₀) (κ := κ)) $$ [Hx3 Hr3 Hs3 Hγ3]
  · isplitr; · iexact Hinv
    isplitl [Hx3]; · iexact Hx3
    isplitl [Hr3]; · iexact Hr3
    isplitl [Hs3]; · iexact Hs3
    iexact Hγ3
  iintro C3
  iapply (gather_step (F := F) d L (xq (kL L)) (listT I L) hL X fr 4 (γ := γ) (γ₀ := γ₀) (κ := κ)) $$ [Hx4 Hr4 Hs4 Hγ4]
  · isplitr; · iexact Hinv
    isplitl [Hx4]; · iexact Hx4
    isplitl [Hr4]; · iexact Hr4
    isplitl [Hs4]; · iexact Hs4
    iexact Hγ4
  iintro C4
  ihave HB := (batch_intro (F := F) d L (deliv (F := F) d L (xq (kL L)) (listT I L) hL X fr) γ γ₀ κ) $$ [Hc0 C0 C1 C2 C3 C4]
  · isplitr; · iexact Hinv
    isplitl [Hc0]; · iexact Hc0
    isplitl [C0]; · iexact C0
    isplitl [C1]; · iexact C1
    isplitl [C2]; · iexact C2
    isplitl [C3]; · iexact C3
    iexact C4
  -- their waits: four take a gather's credit, the last brings every row back
  iapply (wait_step (F := F) d L _ 0 0 (by omega)) $$ [HB HO]
  · isplitl [HB]; · iexact HB
    isplitl [HO]; · iexact HO
    iapply (Transfers.MayWaits.elim (SemLoc.dma cc0_scratch2.sem)) $$ Hmw
  iintro ⟨HB, HO⟩
  iapply (wait_step (F := F) d L _ 1 (0 + 128 * rowN) (by omega)) $$ [HB HO]
  · isplitl [HB]; · iexact HB
    isplitl [HO]; · iexact HO
    iapply (Transfers.MayWaits.elim (SemLoc.dma cc0_scratch2.sem)) $$ Hmw
  iintro ⟨HB, HO⟩
  iapply (wait_step (F := F) d L _ 2 (0 + 128 * rowN + 128 * rowN) (by omega)) $$ [HB HO]
  · isplitl [HB]; · iexact HB
    isplitl [HO]; · iexact HO
    iapply (Transfers.MayWaits.elim (SemLoc.dma cc0_scratch2.sem)) $$ Hmw
  iintro ⟨HB, HO⟩
  iapply (wait_step (F := F) d L _ 3 (0 + 128 * rowN + 128 * rowN + 128 * rowN) (by omega)) $$ [HB HO]
  · isplitl [HB]; · iexact HB
    isplitl [HO]; · iexact HO
    iapply (Transfers.MayWaits.elim (SemLoc.dma cc0_scratch2.sem)) $$ Hmw
  iintro ⟨HB, HO⟩
  iapply (wait_last (F := F) d L _ 4 (0 + 128 * rowN + 128 * rowN + 128 * rowN + 128 * rowN) (by omega)) $$ [HB HO]
  · isplitl [HB]; · iexact HB
    isplitl [HO]; · iexact HO
    iapply (Transfers.MayWaits.elim (SemLoc.dma cc0_scratch2.sem)) $$ Hmw
  iintro ⟨HD, HsemB, HO⟩
  ihave HD := (rows_join (F := F) d L (xq (kL L)) (listT I L) hL X fr) $$ HD
  icases HD with ⟨Hr, Hs, Hx⟩
  -- the gathered rows written out over the task's block
  sl_exec
  sl_step
  isplitl [Hi Hx Ho]
  · isplitl [Hi]; · iapply (Entails.of_eq (pts_iRowK (F := F) d L _)); iexact Hi
    isplitl [Hx]; · iexact Hx
    iapply (Entails.of_eq (written (F := F) d L I X O₀ (tile_body.sl.dma0_1 L I X) rfl)); iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  repeat (rcases Finset.mem_insert.mp hp with hp | hp; · exact .inr (hp ▸ rfl))
  exact .inl hp

end Cert.Proof.K

end
-- ==== Proof.TileObl.lean ====
/-
  THE LAUNCH'S OBLIGATION for its tasks: what the handshake hands a task is what `tile_body` asks for, and what it leaves is what
  the handshake brings back.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The grid point of core `c`, subcore `s`. -/
def atCS (c : Fin (grid0.bound 0)) (s : Fin (grid0.bound 1)) : grid0.Coords :=
  fun | 0 => c | 1 => s | ⟨_ + 2, h⟩ => absurd h (Nat.not_lt.2 (Nat.le_add_left _ _))

/-- The body table's entry for the gather, on a core and subcore of the mesh. -/
theorem defs₀_task (c : Fin τ.nSC) (s : Fin τ.nSub) :
    defs₀ (F := F) (.scVector c s) 0 ()
      = SparseCore.onTile hcore0 hsub0 (fun c s => cc0_gather (atCS c s)
          (Memref.whole main_v1_scv) (Memref.isWhole_whole _) (Memref.whole main_v0_scv) (Memref.isWhole_whole _) (Memref.whole main_v2_scv) (Memref.isWhole_whole _)
          (Memref.whole cc0_scratch0) (Memref.isWhole_whole _) (Memref.whole cc0_scratch1) (Memref.isWhole_whole _) cc0_scratch2 cc0_scoped0 cc0_scoped1) ⟨⟩ c s := rfl

/-- A task records no wait of the launch's own. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp
    rcases hW' p hp with h | h
    · exact .inl h
    · exact .inr (.inl h)
  · iexact HO

set_option maxRecDepth 16384 in
/-- Every task of the launch meets its obligation, the list's words naming rows. -/
theorem tileObl (I : Dev nD → S20480.Idx → Elt F .i32) (X : Dev nD → S100000x128.Idx → Elt F .f32) (O₀ : Dev nD → S20480x128.Idx → Elt F .f32)
    (hI : PreOK I) : (K (F := F)).TileObl (D (F := F)) 𝒱 (P I X O₀) v₀ 0 := by
  intro d c i O W hO _ _
  simp only [show (P I X O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact (tile_body facts d (atCS ⟨_, hci.1⟩ ⟨_, hci.2⟩) (I d) (X d) (O₀ d) (hI d) O W hO).trans (wp_mono frame _ _ fun _ => weaken_waits)

end Cert.Proof.K

end
-- ==== Proof.Main.lean ====
/-
  THE MAIN PROGRAM on a TensorCore, from the launch memory to the returned array: the host operations as straight lines between
  valuations of the core's buffers, the SparseCore call by the tasks' obligations, the two TensorCore calls by their records,
  and the run of the whole mesh at any float values.
-/
module

public import proofs.«01_k».proof.Proof.Regs
public import proofs.«01_k».proof.Proof.TileObl

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "VAL" => Valuation τ sig (Elt F)

/-! ## The host operations, in the four lines between the calls -/

/-- Before the gather: the indices flattened, the table padded to whole rows of 128 lanes. -/
def opsA : List (HloOp τ sig (Elt F)) :=
  [StableHlo.reshape main_arg0 main_v0 (rfl : (.i32 : EltTy) = .i32) shapeCasts_S1024x20_S20480,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S100000x32, .f32⟩) main_call0.v0 main_call0.v1
     (fun x v => pad S100000x128 ![0, 0] ![0, 96] ![0, 0] x v pads_S100000x32_S100000x128_000_0960 h_S_)]
/-- Before the first dense layer: the gathered rows' first 32 lanes, laid out twenty to a row; the bias as a row. -/
def opsB : List (HloOp τ sig (Elt F)) :=
  [StableHlo.unary main_v2 main_v3 ((extractStridedSlice S20480x32 ![0, 0] · slices_S20480x128_S20480x32_0_0) : (⟨S20480x128, .f32⟩ : BufTy).Contents (Elt F) → (⟨S20480x32, .f32⟩ : BufTy).Contents (Elt F)),
   StableHlo.reshape main_v3 main_v4 (rfl : (.f32 : EltTy) = .f32) shapeCasts_S20480x32_S1024x640,
   StableHlo.reshape main_arg3 main_v5 (rfl : (.f32 : EltTy) = .f32) shapeCasts_S128_S1x128]
/-- Before the second: its weights transposed, its bias as a column. -/
def opsC : List (HloOp τ sig (Elt F)) :=
  [StableHlo.unary main_arg4 main_v7 ((transpose S100000x128 [1, 0] · transposes_S128x100000_S100000x128_1_0) : (⟨S128x100000, .f32⟩ : BufTy).Contents (Elt F) → (⟨S100000x128, .f32⟩ : BufTy).Contents (Elt F)),
   StableHlo.reshape main_arg5 main_v8 (rfl : (.f32 : EltTy) = .f32) shapeCasts_S100000_S100000x1]
/-- After it: the result transposed. -/
def opsD : List (HloOp τ sig (Elt F)) :=
  [StableHlo.unary main_v9 main_v10 ((transpose S1024x100000 [1, 0] · transposes_S100000x1024_S1024x100000_1_0) : (⟨S100000x1024, .f32⟩ : BufTy).Contents (Elt F) → (⟨S1024x100000, .f32⟩ : BufTy).Contents (Elt F))]

/-- The main program, its host operations gathered in lines. -/
theorem main_eq (d : Dev nD) : main (F := F) d = (StableHlo.seq opsA >>= fun _ => (K (F := F)).run d 0 >>= fun _ => StableHlo.seq opsB >>= fun _ =>
    Prog.lift (.customCall (SparseCore.inner (Pipeline.entry 0)) ()) >>= fun _ => StableHlo.seq opsC >>= fun _ =>
    Prog.lift (.customCall (SparseCore.inner (Pipeline.entry 1)) ()) >>= fun _ => StableHlo.seq opsD >>= fun _ => pure ⟨⟩) := by
  rfl

/-! ## The valuations between them -/

/-- The core's buffers at launch, and before the gather. -/
def Va (W : VAL) : VAL := StableHlo.after opsA W
/-- After the gather. -/
def Vb (W : VAL) : VAL := upd (Va W) main_v2 (gath (Va W (Proc.devRef .tc main_v0)) (Va W (Proc.devRef .tc main_v1)))
/-- Before the first dense layer, and after it. -/
def Vc (W : VAL) : VAL := StableHlo.after opsB (Vb W)
def Vd (W : VAL) : VAL := upd (Vc W) main_v6 (out1 (Vc W))
/-- Before the second, and after it with result `G`. -/
def Ve (W : VAL) : VAL := StableHlo.after opsC (Vd W)
def Vf (W : VAL) (G : S100000x1024.Idx → Elt F .f32) : VAL := StableHlo.after opsD (upd (Ve W) main_v9 G)

/-- Every operation of a line reads and writes buffers of the core's own, and leaves none of them fresh. -/
theorem opsA_sub : ∀ op ∈ opsA (F := F), op.bufs ⊆ Pipeline.ucRefs τ sig :=
  List.forall_iff_forall_mem.mp ⟨Pipeline.sub_ucRefs _ (by simp), Pipeline.sub_ucRefs _ (by simp), Pipeline.sub_ucRefs _ (by simp), Pipeline.sub_ucRefs _ (by simp)⟩
/-- The same of the second line, -/
theorem opsB_sub : ∀ op ∈ opsB (F := F), op.bufs ⊆ Pipeline.ucRefs τ sig :=
  List.forall_iff_forall_mem.mp ⟨Pipeline.sub_ucRefs _ (by simp), Pipeline.sub_ucRefs _ (by simp), Pipeline.sub_ucRefs _ (by simp)⟩
/-- of the third, -/
theorem opsC_sub : ∀ op ∈ opsC (F := F), op.bufs ⊆ Pipeline.ucRefs τ sig :=
  List.forall_iff_forall_mem.mp ⟨Pipeline.sub_ucRefs _ (by simp), Pipeline.sub_ucRefs _ (by simp)⟩
/-- and of the last. -/
theorem opsD_sub : ∀ op ∈ opsD (F := F), op.bufs ⊆ Pipeline.ucRefs τ sig :=
  List.forall_iff_forall_mem.mp (show List.Forall (fun op : HloOp τ sig (Elt F) => op.bufs ⊆ Pipeline.ucRefs τ sig) opsD from Pipeline.sub_ucRefs _ (by simp))
/-- No operation of the first line leaves a buffer fresh, -/
theorem opsA_fresh : ∀ op ∈ opsA (F := F), op.fresh = ∅ := List.forall_iff_forall_mem.mp ⟨rfl, rfl, rfl, rfl⟩
/-- nor of the second, -/
theorem opsB_fresh : ∀ op ∈ opsB (F := F), op.fresh = ∅ := List.forall_iff_forall_mem.mp ⟨rfl, rfl, rfl⟩
/-- nor of the third, -/
theorem opsC_fresh : ∀ op ∈ opsC (F := F), op.fresh = ∅ := List.forall_iff_forall_mem.mp ⟨rfl, rfl⟩
/-- nor of the last. -/
theorem opsD_fresh : ∀ op ∈ opsD (F := F), op.fresh = ∅ :=
  List.forall_iff_forall_mem.mp (show List.Forall (fun op : HloOp τ sig (Elt F) => op.fresh = ∅) opsD from rfl)

/-! ## The two TensorCore calls, in the main program -/

/-- What a core is handed for call `p` at launch: its staging cells and their duties. -/
abbrev callGhost (p : Fin 2) (c : Dev nD) : sProp 𝕄 :=
  iprop(Pipeline.cellsGhost (Pipeline.pin (pcfgs (F := F)) adm) EP p c ∗ Pipeline.toksInit (Pipeline.pin (pcfgs (F := F)) adm) EP p c)

/-- A TensorCore call of the main program, from its record. -/
theorem wp_call {p : Fin 2} (V : Dev nD → VAL) (R : Pipeline.RDat.RegionSeg (pcfgs (F := F)) adm (rdats V) (none : HIx 1) defs₀ 𝒱₀ (K (F := F)).L (K (F := F)).lev p)
    (c : Dev nD) (Φ : PUnit → sProp 𝕄) :
    iprop((iprop(boundary (SparseCore.T c : Thread nD τ) ∗ R.post c) -∗ Φ ⟨⟩) ∗ boundary (SparseCore.T c : Thread nD τ) ∗ R.pre c
        ∗ levAts (K (F := F)).L (K (F := F)).lev ∗ callGhost p c)
      ⊢ wp frame (wpE ((K (F := F)).defs (D (F := F))) 𝒱 (SparseCore.T c) none) Set.univ
          (Prog.lift (.customCall (SparseCore.inner (Pipeline.entry p)) ())) Φ := by
  have h := Pipeline.RDat.RegionSeg.wp (pcfgs (F := F)) adm (rdats V) (none : HIx 1) cellOf_inj EP defs₀ 𝒱₀ (K (F := F)).L (K (F := F)).lev R c none
    (fun _ h => nomatch h) (fun _ => .ret PUnit.unit) Φ
  refine BIBase.Entails.trans ?_ (BIBase.Entails.trans h ((K (F := F)).wp_liftProg (D (F := F)) 𝒱 (SparseCore.T c) Set.univ none _ Φ))
  rw [wp_ret]
  iintro ⟨Hk, Hb, Hpre, Hlev, Hcg, Htk⟩
  isplitl [Hk]
  · iintro H; imodintro; iapply Hk; iexact H
  isplitl [Hb]; · iexact Hb
  isplitl [Hpre]; · iexact Hpre
  isplitl [Hlev]; · iexact Hlev
  isplitl [Hcg]; · iexact Hcg
  iexact Htk

end Cert.Proof.K

end
-- ==== Proof.Run.lean ====
/-
  THE RUN: @main on a TensorCore between the launch memory and the last valuation, the ghost state the launch deals, and the run
  of every thread at any float values.
-/
module

public import proofs.«01_k».proof.Proof.Main

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "VAL" => Valuation τ sig (Elt F)

variable (m : (ℓ : Loc nD τ sig) → Buf (Elt F) ℓ) (g : Dev nD → PrngReg)

/-- Device `d`'s buffers at launch. -/
abbrev W0 (d : Dev nD) : VAL := fun b => m (d, b)

/-- The gather's list, table and result as @main hands them over. -/
abbrev lst (d : Dev nD) : S20480.Idx → Elt F .i32 := Va (W0 m d) (Proc.devRef .tc main_v0)
abbrev tbl (d : Dev nD) : S100000x128.Idx → Elt F .f32 := Va (W0 m d) (Proc.devRef .tc main_v1)
abbrev res (d : Dev nD) : S20480x128.Idx → Elt F .f32 := Va (W0 m d) (Proc.devRef .tc main_v2)

/-- The payloads of the one SparseCore call. -/
abbrev PP := P (lst m) (tbl m) (res m)

/-! ## The launch element of the certificate's ghost state -/

/-- The SparseCore handshakes' rounds, the TensorCore pipelines', and no counter yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a core holds for its two TensorCore calls. -/
abbrev GG (d : Dev nD) : sProp 𝕄 := iprop(callGhost 0 d ∗ callGhost 1 d)

omit [FloatOps F] in
/-- A product of empty assertions is empty. -/
theorem bigSep_none {I : Type} (s : Finset I) : (bigSep s fun _ => iprop(emp)) = (iprop(emp) : sProp 𝕄) := bigSep_emp_const s

/-- The pipelines' launch rounds are each core's staging cells and duties for its two calls. -/
theorem fund : (BI.own (EP (initOf (Pipeline.cells (Pipeline.pin (pcfgs (F := F)) adm) cellOf_inj) (Pipeline.launchToks (Pipeline.pin (pcfgs (F := F)) adm) cellOf_inj))) : sProp 𝕄)
    ⊢ |==> bigSep Finset.univ fun d : Dev nD => GG d := by
  refine BIBase.Entails.trans (Pipeline.fund_ghost (Pipeline.pin (pcfgs (F := F)) adm) EP cellOf_inj) (bupd_mono ?_)
  rw [← bigSep_sep']
  refine Entails.of_eq (bigSep_congr fun d _ => ?_)
  rw [← bigSep_sep', show (Finset.univ : Finset (Fin 2)) = {0, 1} from rfl, SparseCore.bigSep_insert' (by decide), bigSep_singleton]

/-- The launch's ghost state deals out what the handshakes and the regions start from. -/
theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR := (own_pair_emb (embR : Emb (UP × Counters) 𝕄) _ _) $$ HR
  icases HR with ⟨HP, -⟩
  imod (show (BI.own (((Emb.inl : Emb UP (UP × Counters)).trans (embR : Emb (UP × Counters) 𝕄))
      (initOf (Pipeline.cells (Pipeline.pin (pcfgs (F := F)) adm) cellOf_inj) (Pipeline.launchToks (Pipeline.pin (pcfgs (F := F)) adm) cellOf_inj))) : sProp 𝕄)
    ⊢ |==> bigSep Finset.univ fun d : Dev nD => GG d from fund) $$ HP with HG
  imodintro
  isplitl [HH]; · iexact HH
  isplitl [HG]; · iexact HG
  rw [show (bigSep Finset.univ fun thr : Thread nD τ => bigSep Finset.univ fun q : Fin 1 => (PP m).x q thr) = (bigSep Finset.univ fun _ => iprop(emp) : sProp 𝕄) from
    bigSep_congr fun _ _ => bigSep_univ_of_subsingleton (0 : Fin 1), bigSep_none]
  iempintro

/-! ## A valuation with one buffer changed -/

omit [FloatOps F] in
/-- A valuation updated at a buffer holds the new contents there, -/
theorem upd_self (V : VAL) (b : Ref sig .tc) (x : (Proc.devRef (τ := τ) .tc b).ty.Contents (Elt F)) : upd V b x (Proc.devRef .tc b) = x :=
  Function.update_self _ _ _
omit [FloatOps F] in
/-- and the old ones elsewhere. -/
theorem upd_ne (V : VAL) {b b' : Ref sig .tc} (h : b' ≠ b) (x : (Proc.devRef (τ := τ) .tc b).ty.Contents (Elt F)) :
    upd V b x (Proc.devRef .tc b') = V (Proc.devRef .tc b') := Function.update_of_ne (StableHlo.devRef_ne_of_ne h) _ _

/-! ## The gather's three buffers, out of the core's and back -/

/-- The three buffers' references. -/
abbrev three : Finset (DevRef τ sig) := {Proc.devRef .tc main_v0, Proc.devRef .tc main_v1, Proc.devRef .tc main_v2}

/-- The gather's three buffers are among the core's own. -/
theorem three_sub : three ⊆ Pipeline.ucRefs τ sig := by decide

omit [FloatOps F] in
/-- The core's buffers are those three and the others. -/
theorem three_out (d : Dev nD) (V : VAL) : (bufs d V : sProp 𝕄)
    = iprop(((iLoc d ↦{fullShare} V (Proc.devRef .tc main_v0)) ∗ (xLoc d ↦{fullShare} V (Proc.devRef .tc main_v1)) ∗ (oLoc d ↦{fullShare} V (Proc.devRef .tc main_v2)))
        ∗ StableHlo.held (d : Thread nD τ) (Pipeline.ucRefs τ sig \ three) V) := by
  rw [show (bufs d V : sProp 𝕄) = _ from StableHlo.held_sub_split (d : Thread nD τ) three_sub V]
  congr 1
  unfold StableHlo.held
  rw [SparseCore.bigSep_insert' (by decide), SparseCore.bigSep_insert' (by decide), bigSep_singleton]

/-- The SparseCore call's operands are the three buffers whole. -/
theorem st0_eq (d : Dev nD) : (bigSep Finset.univ fun c : Fin ((K (F := F)).nCore 0) => (PP m).st 0 d c)
    = (iprop((iLoc d ↦{fullShare} lst m d) ∗ (xLoc d ↦{fullShare} tbl m d) ∗ (oLoc d ↦{fullShare} res m d)) : sProp 𝕄) :=
  (goPts_all (lst m d) (tbl m d) (res m d) d).symm
/-- So are its results, the last holding the gathered rows. -/
theorem dn0_eq (d : Dev nD) : (bigSep Finset.univ fun c : Fin ((K (F := F)).nCore 0) => (PP m).dn 0 d c)
    = (iprop((iLoc d ↦{fullShare} lst m d) ∗ (xLoc d ↦{fullShare} tbl m d) ∗ (oLoc d ↦{fullShare} gath (lst m d) (tbl m d))) : sProp 𝕄) :=
  (goPts_all (lst m d) (tbl m d) (gath (lst m d) (tbl m d)) d).symm

/-- The three buffers after the call, put back among the core's. -/
theorem three_in (d : Dev nD) : (iprop(((iLoc d ↦{fullShare} lst m d) ∗ (xLoc d ↦{fullShare} tbl m d) ∗ (oLoc d ↦{fullShare} gath (lst m d) (tbl m d)))
        ∗ StableHlo.held (d : Thread nD τ) (Pipeline.ucRefs τ sig \ three) (Va (W0 m d))) : sProp 𝕄) ⊢ bufs d (Vb (W0 m d)) := by
  have e0 : Vb (W0 m d) (Proc.devRef .tc main_v0) = lst m d := upd_ne _ (by decide) _
  have e1 : Vb (W0 m d) (Proc.devRef .tc main_v1) = tbl m d := upd_ne _ (by decide) _
  have e2 : Vb (W0 m d) (Proc.devRef .tc main_v2) = gath (lst m d) (tbl m d) := upd_self _ _ _
  rw [three_out d (Vb (W0 m d)), e0, e1, e2]
  refine sep_mono .rfl (Entails.of_eq (StableHlo.held_congr (d : Thread nD τ) fun b hb => ?_))
  refine (Function.update_of_ne (fun e => (Finset.mem_sdiff.mp hb).2 ?_) _ _).symm
  rw [e]; decide

/-! ## The two TensorCore calls between valuations -/

/-- The first dense layer in the main program: its result in its buffer, the others as they were. -/
theorem wp_call1 (V : Dev nD → VAL) (c : Dev nD) (Φ : PUnit → sProp 𝕄) :
    iprop((iprop(boundary (SparseCore.T c : Thread nD τ) ∗ bufs c (upd (V c) main_v6 (out1 (V c))) ∗ owes0 c) -∗ Φ ⟨⟩)
        ∗ boundary (SparseCore.T c : Thread nD τ) ∗ (bufs c (V c) ∗ owes0 c) ∗ levAts (K (F := F)).L (K (F := F)).lev ∗ callGhost 0 c)
      ⊢ wp frame (wpE ((K (F := F)).defs (D (F := F))) 𝒱 (SparseCore.T c) none) Set.univ
          (Prog.lift (.customCall (SparseCore.inner (Pipeline.entry 0)) ())) Φ := wp_call V (reg1 V) c Φ

/-- The second dense layer in the main program: some result that satisfies the block relation in its buffer, the others as they were. -/
theorem wp_call2 (V : Dev nD → VAL) (c : Dev nD) (Φ : PUnit → sProp 𝕄) :
    iprop((iprop(boundary (SparseCore.T c : Thread nD τ)
          ∗ (∃ G, ⌜Rel2 (V c (Proc.devRef .tc main_v6)) (V c (Proc.devRef .tc main_v7)) (V c (Proc.devRef .tc main_v8)) G⌝ ∗ bufs c (upd (V c) main_v9 G)) ∗ owes0 c) -∗ Φ ⟨⟩)
        ∗ boundary (SparseCore.T c : Thread nD τ) ∗ (bufs c (V c) ∗ owes0 c) ∗ levAts (K (F := F)).L (K (F := F)).lev ∗ callGhost 1 c)
      ⊢ wp frame (wpE ((K (F := F)).defs (D (F := F))) 𝒱 (SparseCore.T c) none) Set.univ
          (Prog.lift (.customCall (SparseCore.inner (Pipeline.entry 1)) ())) Φ := wp_call V (reg2 V) c Φ

/-! ## @main -/

/-- What the run leaves on a core: its buffers at the last valuation, for some result of the second dense layer that is block by
    block what its body computes. -/
abbrev FIN (d : Dev nD) : sProp 𝕄 :=
  iprop(∃ G, ⌜Rel2 (Ve (W0 m d) (Proc.devRef .tc main_v6)) (Ve (W0 m d) (Proc.devRef .tc main_v7)) (Ve (W0 m d) (Proc.devRef .tc main_v8)) G⌝ ∗ bufs d (Vf (W0 m d) G))

/-- @main on device `d`'s TensorCore. -/
theorem hmain (κ : GSem nD τ sig → ℕ) (d : Dev nD) :
    iprop((K (F := F)).ctx EH (PP m) κ ∗ (K (F := F)).tcSt EH d 0 ∗ (K (F := F)).tcRes m g d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = bufs d (W0 m d) from Pipeline.unscopedBufs_held d (W0 m d), main_eq]
  iintro ⟨#Hctx, Hst, ⟨Hb, Hbufs, Hts, -⟩, ⟨HG0, HG1⟩⟩
  ihave #Hlev := (SparseCore.Cfg.ctx_levAts κ) $$ Hctx
  iapply (StableHlo.wp_seq 𝒱 none Set.univ d (Pipeline.ucRefs τ sig) _ opsA opsA_sub opsA_fresh (W0 m d)) $$ [Hb Hbufs]
  · isplitl [Hb] <;> iassumption
  iintro ⟨Hb, Hbufs⟩
  ihave H3 := (show bufs d (StableHlo.after opsA (W0 m d)) ⊢ _ from Entails.of_eq (three_out d (Va (W0 m d)))) $$ Hbufs
  icases H3 with ⟨H3, Hrest⟩
  rw [wp_bind]
  iapply ((K (F := F)).wp_run (D (F := F)) 𝒱 (EH := EH) (P := PP m) κ d 0) $$ [Hst H3 Hrest Hb Hts HG0 HG1]
  isplitr; · iexact Hctx
  isplitl [Hst]; · iexact Hst
  isplitl [H3]
  · rw [st0_eq]; iexact H3
  iintro ⟨Hst, Hdn⟩
  ihave H3 := (Entails.of_eq (dn0_eq m d)) $$ Hdn
  ihave Hbufs := (three_in m d) $$ [H3 Hrest]
  · isplitl [H3] <;> iassumption
  iapply (StableHlo.wp_seq 𝒱 none Set.univ d (Pipeline.ucRefs τ sig) _ opsB opsB_sub opsB_fresh (Vb (W0 m d))) $$ [Hb Hbufs]
  · isplitl [Hb] <;> iassumption
  iintro ⟨Hb, Hbufs⟩
  unfold SparseCore.Cfg.tcSt
  rw [show (K (F := F)).Otc d ((0 : Fin 1).val + 1) = 0 from (K (F := F)).Otc_end d (le_refl 1), show (K (F := F)).Otc d 1 = 0 from (K (F := F)).Otc_end d (le_refl 1)]
  icases Hst with ⟨HO, Hst⟩
  rw [wp_bind]
  iapply (wp_call1 (fun d => Vc (W0 m d)) d _)
  isplitr [Hb Hbufs HO HG0]
  swap
  · isplitl [Hb]; · iexact Hb
    isplitl [Hbufs HO]
    · isplitl [Hbufs]; · iexact Hbufs
      iexact HO
    isplitr; · iexact Hlev
    iexact HG0
  iintro ⟨Hb, Hbufs, HO⟩
  iapply (StableHlo.wp_seq 𝒱 none Set.univ d (Pipeline.ucRefs τ sig) _ opsC opsC_sub opsC_fresh (Vd (W0 m d))) $$ [Hb Hbufs]
  · isplitl [Hb]; · iexact Hb
    iexact Hbufs
  iintro ⟨Hb, Hbufs⟩
  rw [wp_bind]
  iapply (wp_call2 (fun d => Ve (W0 m d)) d _)
  isplitr [Hb Hbufs HO HG1]
  swap
  · isplitl [Hb]; · iexact Hb
    isplitl [Hbufs HO]
    · isplitl [Hbufs]; · iexact Hbufs
      iexact HO
    isplitr; · iexact Hlev
    iexact HG1
  iintro ⟨Hb, ⟨%G, %hG, Hbufs⟩, HO⟩
  iapply (StableHlo.wp_seq 𝒱 none Set.univ d (Pipeline.ucRefs τ sig) _ opsD opsD_sub opsD_fresh (upd (Ve (W0 m d)) main_v9 G)) $$ [Hb Hbufs]
  · isplitl [Hb]; · iexact Hb
    iexact Hbufs
  iintro ⟨Hb, Hbufs⟩
  rw [Prog.pure_eq_ret, wp_ret]
  imodintro
  isplitl [Hst HO]
  · isplitl [HO]; · iexact HO
    iexact Hst
  isplitl [Hbufs]
  · iexists G
    isplitr; · ipureintro; exact hG
    iexact Hbufs
  isplitl [Hb] <;> iassumption

/-! ## The final memory -/

/-- Buffers held, beside the state: the memory has them at the valuation. -/
theorem held_agree (d : Dev nD) (S : Finset (DevRef τ sig)) (V : VAL) (s' : Phys nD τ sig (Elt F)) :
    iprop(StableHlo.held (d : Thread nD τ) S V ∗ SI s') ⊢ (⌜∀ b : {b // b ∈ S}, s'.mem.mem (d, b.1) = V b.1⌝ : sProp 𝕄) := by
  refine BIBase.Entails.trans (forall_intro fun b => ?_) pure_forall.2
  refine BIBase.Entails.trans (sep_mono (bigSep_elim b.2) .rfl) ?_
  iintro ⟨Hp, HSI⟩
  ihave H := (SI_pointsTo_agree (st := s') (ℓ := (d, b.1)) (I := Finset.univ) (q := fullShare) (f := V b.1)) $$ [HSI Hp]
  · isplitl [HSI] <;> iassumption
  icases H with %h
  ipureintro; exact funext fun i => h i (Finset.mem_univ i)

/-- What the run leaves in device `d`'s memory. -/
def fq (d : Dev nD) (s' : MemSt nD τ sig (Elt F)) : Prop :=
  ∃ G, Rel2 (Ve (W0 m d) (Proc.devRef .tc main_v6)) (Ve (W0 m d) (Proc.devRef .tc main_v7)) (Ve (W0 m d) (Proc.devRef .tc main_v8)) G
    ∧ ∀ b : {b // b ∈ Pipeline.ucRefs τ sig}, s'.mem (d, b.1) = Vf (W0 m d) G b.1

/-- The last assertion, read off the final memory. -/
theorem hfin (d : Dev nD) (s' : Phys nD τ sig (Elt F)) : iprop(FIN m d ∗ SI s') ⊢ (⌜fq m d s'.mem⌝ : sProp 𝕄) := by
  iintro ⟨⟨%G, %hG, Hbufs⟩, HSI⟩
  ihave H := (held_agree d (Pipeline.ucRefs τ sig) (Vf (W0 m d) G) s') $$ [Hbufs HSI]
  · isplitl [Hbufs] <;> iassumption
  icases H with %h
  ipureintro; exact ⟨G, hG, h⟩

/-- THE RUN of the whole mesh, at any float values, from a memory whose list names rows of the table. -/
theorem run_all [∀ e, Nonempty (Elt F e)] (hpre : PreOK (lst m)) :
    θ_run (Cert.KernelIdeal.defs (F := F)) (Cert.KernelIdeal.threads (F := F)) ⟨m, fun _ => 0, g⟩ (fun r => (∀ d : Dev nD, fq m d r.2) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (lst m) (tbl m) (res m) hpre)
    (fun q _ => match q with | 0 => SparseCore.Cfg.VecSplit.of_plain (vecSplit (lst m) (tbl m) (res m)))
    m g main GG (FIN m) (u₀ (F := F)) (sep_elim_left.trans (hu₀ m)) (hmain m g) (fun d s' => fq m d s'.mem) (hfin m)
    (fun r => (∀ d : Dev nD, fq m d r.2) ∧ r.2.sem = fun _ => 0) (fun _ h hz => ⟨h, hz⟩)

end Cert.Proof.K

end
-- ==== Proof.Reads.lean ====
/-
  THE BUFFERS READ BACK: what the valuations between the calls hold at the arguments, at the index list and the padded table, at
  the layers' operands and at the returned array.
-/
module

public import proofs.«01_k».proof.Proof.Run
public import Idealize.ShloMosaic.Lib.StableHlo.RunRead

@[expose] public section

noncomputable section

namespace Cert.Proof.K

open Cert.KernelIdeal Cert.KernelIdeal.Gen

open Idealize.ShloMosaic
open Idealize.ShloMosaic.TcCoe
open Idealize.ShloMosaic.SparseCore.Cfg (HIx)
open Idealize.SL.Sem

variable {F : FTy → Type} [FloatOps F]

local notation "VAL" => Valuation τ sig (Elt F)

/-! ## What the lines leave alone -/

/-- The first line writes the list, the padding word, its float and the padded table only. -/
theorem Va_ne (W : VAL) {r : Ref sig .tc} (h : r ∉ [main_v0, main_c, main_call0.v0.ref, main_v1]) :
    Va W (Proc.devRef .tc r) = W (Proc.devRef .tc r) :=
  StableHlo.after_unwritten [main_v0, main_c, main_call0.v0.ref, main_v1] rfl h W

/-- The gather writes its result only. -/
theorem Vb_ne (W : VAL) {r : Ref sig .tc} (h : r ≠ main_v2) :
    Vb W (Proc.devRef .tc r) = Va W (Proc.devRef .tc r) := upd_ne _ h _

/-- The second line writes the cut rows, their layout and the bias row only. -/
theorem Vc_ne (W : VAL) {r : Ref sig .tc} (h : r ∉ [main_v3, main_v4, main_v5]) :
    Vc W (Proc.devRef .tc r) = Vb W (Proc.devRef .tc r) :=
  StableHlo.after_unwritten [main_v3, main_v4, main_v5] rfl h (Vb W)

/-- The first dense layer writes its result only. -/
theorem Vd_ne (W : VAL) {r : Ref sig .tc} (h : r ≠ main_v6) :
    Vd W (Proc.devRef .tc r) = Vc W (Proc.devRef .tc r) := upd_ne _ h _

/-- The third line writes the transposed weights and the bias column only. -/
theorem Ve_ne (W : VAL) {r : Ref sig .tc} (h : r ∉ [main_v7, main_v8]) :
    Ve W (Proc.devRef .tc r) = Vd W (Proc.devRef .tc r) :=
  StableHlo.after_unwritten [main_v7, main_v8] rfl h (Vd W)

/-- The last line and the second dense layer write their results only. -/
theorem Vf_ne (W : VAL) (G : S100000x1024.Idx → Elt F .f32) {r : Ref sig .tc} (h : r ∉ [main_v10])
    (h' : r ≠ main_v9) :
    Vf W G (Proc.devRef .tc r) = Ve W (Proc.devRef .tc r) :=
  (StableHlo.after_unwritten [main_v10] rfl h (upd (Ve W) main_v9 G)).trans (upd_ne _ h' _)

/-- A buffer nothing before the second dense layer writes. -/
theorem Vd_of (W : VAL) {r : Ref sig .tc} (ha : r ∉ [main_v0, main_c, main_call0.v0.ref, main_v1])
    (hb : r ≠ main_v2) (hc : r ∉ [main_v3, main_v4, main_v5])
    (hd : r ≠ main_v6) : Vd W (Proc.devRef .tc r) = W (Proc.devRef .tc r) :=
  (Vd_ne W hd).trans <| (Vc_ne W hc).trans <| (Vb_ne W hb).trans <| Va_ne W ha

/-! ## The arguments at the end -/

/-- Argument 0 ends as it began. -/
theorem Vf_arg0 (W : VAL) (G) : Vf W G (Proc.devRef .tc main_arg0) = W (Proc.devRef .tc main_arg0) :=
  (Vf_ne W G (by decide) (by decide)).trans <| (Ve_ne W (by decide)).trans <| Vd_of W (by decide) (by decide) (by decide) (by decide)
/-- Argument 1 ends as it began. -/
theorem Vf_arg1 (W : VAL) (G) : Vf W G (Proc.devRef .tc main_arg1) = W (Proc.devRef .tc main_arg1) :=
  (Vf_ne W G (by decide) (by decide)).trans <| (Ve_ne W (by decide)).trans <| Vd_of W (by decide) (by decide) (by decide) (by decide)
/-- Argument 2 ends as it began. -/
theorem Vf_arg2 (W : VAL) (G) : Vf W G (Proc.devRef .tc main_arg2) = W (Proc.devRef .tc main_arg2) :=
  (Vf_ne W G (by decide) (by decide)).trans <| (Ve_ne W (by decide)).trans <| Vd_of W (by decide) (by decide) (by decide) (by decide)
/-- Argument 3 ends as it began. -/
theorem Vf_arg3 (W : VAL) (G) : Vf W G (Proc.devRef .tc main_arg3) = W (Proc.devRef .tc main_arg3) :=
  (Vf_ne W G (by decide) (by decide)).trans <| (Ve_ne W (by decide)).trans <| Vd_of W (by decide) (by decide) (by decide) (by decide)
/-- Argument 4 ends as it began. -/
theorem Vf_arg4 (W : VAL) (G) : Vf W G (Proc.devRef .tc main_arg4) = W (Proc.devRef .tc main_arg4) :=
  (Vf_ne W G (by decide) (by decide)).trans <| (Ve_ne W (by decide)).trans <| Vd_of W (by decide) (by decide) (by decide) (by decide)
/-- Argument 5 ends as it began. -/
theorem Vf_arg5 (W : VAL) (G) : Vf W G (Proc.devRef .tc main_arg5) = W (Proc.devRef .tc main_arg5) :=
  (Vf_ne W G (by decide) (by decide)).trans <| (Ve_ne W (by decide)).trans <| Vd_of W (by decide) (by decide) (by decide) (by decide)

/-! ## The list, the table, the layers' operands and the returned array -/

/-- The list is the index matrix, row after row. -/
theorem Va_v0 (W : VAL) : Va W (Proc.devRef .tc main_v0)
    = shapeCast (α := Elt F .i32) S20480 (W (Proc.devRef .tc main_arg0)) shapeCasts_S1024x20_S20480 := by
  unfold Va opsA
  simp only [StableHlo.TRef.binary, StableHlo.TRef.nullary, StableHlo.TRef.unary, StableHlo.TRef.toBuf, StableHlo.TRef.ofBuf, cast_eq]
  after_results_simp <;> rfl

/-- The padded table: the table with the padding word's float to the right of it. -/
theorem Va_v1 (W : VAL) : Va W (Proc.devRef .tc main_v1)
    = pad (α := Elt F .f32) S100000x128 ![0, 0] ![0, 96] ![0, 0] (W (Proc.devRef .tc main_arg1))
        (sitofp .f32 (constantI S_ 32 0#32)) pads_S100000x32_S100000x128_000_0960 h_S_ := by
  unfold Va opsA
  simp only [StableHlo.TRef.binary, StableHlo.TRef.nullary, StableHlo.TRef.unary, StableHlo.TRef.toBuf, StableHlo.TRef.ofBuf, cast_eq]
  after_results_simp <;> rfl

/-- The first dense layer's operand: the gathered rows' first 32 lanes, twenty rows to one. -/
theorem Vc_v4 (W : VAL) : Vc W (Proc.devRef .tc main_v4)
    = shapeCast (α := Elt F .f32) S1024x640 (extractStridedSlice S20480x32 ![0, 0]
        (gath (Va W (Proc.devRef .tc main_v0)) (Va W (Proc.devRef .tc main_v1))) slices_S20480x128_S20480x32_0_0)
        shapeCasts_S20480x32_S1024x640 := by
  have h : Vb W (Proc.devRef .tc main_v2) = gath (Va W (Proc.devRef .tc main_v0)) (Va W (Proc.devRef .tc main_v1)) := upd_self _ _ _
  rw [← h]
  unfold Vc opsB
  after_results_simp <;> rfl

/-- Its bias as a row. -/
theorem Vc_v5 (W : VAL) : Vc W (Proc.devRef .tc main_v5)
    = shapeCast (α := Elt F .f32) S1x128 (W (Proc.devRef .tc main_arg3)) shapeCasts_S128_S1x128 := by
  have h : Vb W (Proc.devRef .tc main_arg3) = W (Proc.devRef .tc main_arg3) := (Vb_ne W (by decide)).trans (Va_ne W (by decide))
  rw [← h]
  unfold Vc opsB
  after_results_simp <;> rfl

/-- Its weights. -/
theorem Vc_arg2 (W : VAL) : Vc W (Proc.devRef .tc main_arg2) = W (Proc.devRef .tc main_arg2) :=
  (Vc_ne W (by decide)).trans <| (Vb_ne W (by decide)).trans <| Va_ne W (by decide)

/-- The second dense layer's operand is the first one's result. -/
theorem Ve_v6 (W : VAL) : Ve W (Proc.devRef .tc main_v6) = out1 (Vc W) :=
  (Ve_ne W (by decide)).trans (upd_self _ _ _)

/-- Its weights are the transposed ones. -/
theorem Ve_v7 (W : VAL) : Ve W (Proc.devRef .tc main_v7)
    = transpose (α := Elt F .f32) S100000x128 [1, 0] (W (Proc.devRef .tc main_arg4)) transposes_S128x100000_S100000x128_1_0 := by
  rw [← Vd_of W (r := main_arg4) (by decide) (by decide) (by decide) (by decide)]
  unfold Ve opsC
  after_results_simp <;> rfl

/-- Its bias as a column. -/
theorem Ve_v8 (W : VAL) : Ve W (Proc.devRef .tc main_v8)
    = shapeCast (α := Elt F .f32) S100000x1 (W (Proc.devRef .tc main_arg5)) shapeCasts_S100000_S100000x1 := by
  rw [← Vd_of W (r := main_arg5) (by decide) (by decide) (by decide) (by decide)]
  unfold Ve opsC
  after_results_simp <;> rfl

/-- The returned array is the second layer's result transposed. -/
theorem Vf_v10 (W : VAL) (G : S100000x1024.Idx → Elt F .f32) : Vf W G (Proc.devRef .tc main_v10)
    = transpose (α := Elt F .f32) S1024x100000 [1, 0] G transposes_S100000x1024_S1024x100000_1_0 := by
  have h : upd (Ve W) main_v9 G (Proc.devRef .tc main_v9) = G := upd_self _ _ _
  conv_rhs => rw [← h]
  unfold Vf opsD
  after_results_simp <;> rfl

end Cert.Proof.K

end
-- ==== Proof.Frames.lean ====
/-
  THE FRAMES: the kernel's runs at machine floats and at real ones, and the reference's, each leaving its arguments unchanged and
  every counter at zero. The gather's precondition, that every word of its list names a row of the table, is the printed one's.
-/
module

public import proofs.«01_k».proof.Defs
public import proofs.«01_k».proof.Proof.Reads
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.Quiescent
public import Idealize.ShloMosaic.Lib.Pipeline.FrameTail

@[expose] public section

noncomputable section

namespace Cert.Proof.K

open Idealize.ShloMosaic
open Idealize.ShloMosaic.TcCoe
open Idealize.SL.Sem

variable {F : FTy → Type} [FloatOps F]

/-! ## The precondition -/

/-- A conjunction of two one-bit words is one exactly when both are. -/
theorem and_one {a b : BitVec 1} (h : IntOp.andi a b = 1#1) : a = 1#1 ∧ b = 1#1 := IntOp.andi_eq_one.1 h

/-- A word that is signed at least zero and signed below 100000 is, unsigned, below 100000. -/
theorem lt_of_signed {w : BitVec 32} (h0 : IntOp.cmpi .sge w 0#32 = 1#1) (h1 : IntOp.cmpi .slt w 100000#32 = 1#1) : w.toNat < 100000 := by
  have hb : ∀ b : Bool, BitVec.ofBool b = 1#1 → b = true := by decide
  have h0 := hb _ h0
  have h1 := hb _ h1
  simp only [BitVec.sle_eq_decide, BitVec.slt_eq_decide, decide_eq_true_eq, BitVec.toInt_eq_toNat_cond,
    BitVec.toNat_ofNat, Nat.reducePow, Nat.reduceMod] at h0 h1
  omega

/-- The printed precondition bounds every index. -/
theorem lt_of_pre (x : Cert.KernelIdeal.S1024x20.Idx → BitVec 32) (a1 a2 a3 a4 a5)
    (h : Cert.Pre_in_range.fn (F := F) x a1 a2 a3 a4 a5 = fun _ => 1#1) (i : Cert.KernelIdeal.S1024x20.Idx) : (x i).toNat < 100000 := by
  have h' := congrFun h (fun a => nomatch a)
  haveI : Subsingleton Cert.Pre_in_range.S_.Idx := ⟨fun a b => funext fun i => nomatch i⟩
  have e := and_one (Host.reduce_andi_all _ _ _ _ _ h' i)
  exact lt_of_signed e.1 e.2

/-- So the gather's list names rows of the table. -/
theorem pre_ok (m : (ℓ : Loc Cert.KernelIdeal.nD Cert.KernelIdeal.τ Cert.KernelIdeal.sig) → Buf (Elt F) ℓ)
    (h : ∀ (d : Dev Cert.KernelIdeal.nD) (i : Cert.KernelIdeal.S1024x20.Idx),
      ((m ((d.tc : Thread Cert.KernelIdeal.nD Cert.KernelIdeal.τ).loc Cert.KernelIdeal.main_arg0) : Cert.KernelIdeal.S1024x20.Idx → BitVec 32) i).toNat < 100000) :
    PreOK (lst m) := fun d j => by
  rw [show lst m d = _ from Va_v0 (W0 m d)]
  exact h d _

/-! ## The kernel's frames -/

/-- The kernel's run at any floats, its arguments read back. -/
theorem frame_any [∀ e, Nonempty (Elt F e)] (m : (ℓ : Loc Cert.KernelIdeal.nD Cert.KernelIdeal.τ Cert.KernelIdeal.sig) → Buf (Elt F) ℓ)
    (g : Dev Cert.KernelIdeal.nD → PrngReg) (hpre : PreOK (lst m)) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run _ _ _).mono (fun r h => ⟨fun c => by
    obtain ⟨G, -, hb⟩ := h.1 c
    have hm := fun (r : Ref Cert.KernelIdeal.sig .tc) (hr : r.isScoped = false) => hb ⟨Proc.devRef .tc r, Pipeline.devRef_mem_ucRefs hr⟩
    exact ⟨(hm Cert.KernelIdeal.main_arg0 (by decide)).trans (Vf_arg0 _ G), (hm Cert.KernelIdeal.main_arg1 (by decide)).trans (Vf_arg1 _ G),
      (hm Cert.KernelIdeal.main_arg2 (by decide)).trans (Vf_arg2 _ G), (hm Cert.KernelIdeal.main_arg3 (by decide)).trans (Vf_arg3 _ G),
      (hm Cert.KernelIdeal.main_arg4 (by decide)).trans (Vf_arg4 _ G), (hm Cert.KernelIdeal.main_arg5 (by decide)).trans (Vf_arg5 _ G)⟩, h.2⟩)
    (run_all m g hpre)

/-- The kernel as printed and the kernel printed for real values have the same bodies, at machine floats. -/
theorem defs₀_bits : Cert.Kernel.defs₀ (F := Bits) = Cert.KernelIdeal.defs₀ (F := Bits) := by
  funext p l a
  match p, l, a with
  | .scVector c s, 0, _ => rfl
  | .scVector c s, 1, _ => rfl
  | .scVector c s, 2, _ => rfl
  | .tc, 0, _ => rfl
  | .tc, 1, (t, s) => rfl
  | .tc, 2, (t, s) => rfl
  | .scScalar c, 0, _ => rfl
  | .scScalar c, 1, _ => rfl
  | .scScalar c, 2, _ => rfl

/-- So they have the same body tables. -/
theorem defs_bits : Cert.Kernel.defs (F := Bits) = Cert.KernelIdeal.defs (F := Bits) :=
  congrArg (fun D => (Cert.KernelIdeal.sc (F := Bits)).defs (Pipeline.defs (Cert.KernelIdeal.pcfgs (F := Bits)) D)) defs₀_bits

/-- And the same threads. -/
theorem threads_bits : Cert.Kernel.threads (F := Bits) = Cert.KernelIdeal.threads (F := Bits) := rfl

/-- The kernel as printed, at machine floats. -/
theorem frame_kernel : Cert.quiescent_Kernel := fun m g h => by
  rw [defs_bits, threads_bits]
  exact frame_any (F := Bits) m g (pre_ok m fun d i => lt_of_pre (F := Bits) _ _ _ _ _ _ (h d) i)

/-- The kernel at real values. -/
theorem frame_ideal : Cert.quiescent_KernelIdeal := fun m g h => frame_any (F := Ideal) m g (pre_ok m fun d i => lt_of_pre _ _ _ _ _ _ (h d) i)

/-! ## The reference's -/

/-- The reference, which has no semaphores. -/
theorem frame_ref : Cert.quiescent_ReferenceIdeal := fun m g _ =>
  (θ_run _ _ _).mono (fun r h => ⟨fun c => (h c).2, sem_eq_zero_of_no_sems (by decide) r.2⟩) (Cert.ReferenceIdeal.Value.run m g)

/-- The same under the precondition. -/
theorem frame_ref_pre : Cert.quiescent_ReferenceIdeal_pre_in_range := fun m g _ => frame_ref m g trivial

end Cert.Proof.K

end
-- ==== Proof.RefValue.lean ====
/-
  THE REFERENCE'S VALUE at real floats: its rows, its hidden layer and its result read entry by entry, under the bound on the
  indices.
-/
module

public import proofs.«01_k».proof.Proof.Frames
public import Idealize.ShloMosaic.Lib.Pointwise

@[expose] public section

noncomputable section

namespace Cert.Proof.R

open Cert.ReferenceIdeal Cert.ReferenceIdeal.Gen
open Cert.Proof.K (rowIx rowIx_val)

open Idealize.ShloMosaic
open Idealize.SL.Sem

/-! ## The reference's rows -/

/-- A word below 100000 is not signed below zero. -/
theorem not_neg {w : BitVec 32} (h : w.toNat < 100000) : IntOp.cmpi .slt w 0#32 = 0#1 := by
  have : BitVec.slt w 0#32 = false := by
    simp only [BitVec.slt_eq_decide, decide_eq_false_iff_not, BitVec.toInt_eq_toNat_cond, BitVec.toNat_ofNat, Nat.reducePow, Nat.reduceMod]
    omega
  show BitVec.ofBool (BitVec.slt w 0#32) = _
  rw [this]; rfl
/-- It is signed at least zero, -/
theorem sge_zero {w : BitVec 32} (h : w.toNat < 100000) : IntOp.cmpi .sge w 0#32 = 1#1 := by
  have : BitVec.sle 0#32 w = true := by
    simp only [BitVec.sle_eq_decide, decide_eq_true_eq, BitVec.toInt_eq_toNat_cond, BitVec.toNat_ofNat, Nat.reducePow, Nat.reduceMod]
    omega
  show BitVec.ofBool (BitVec.sle 0#32 w) = _
  rw [this]; rfl
/-- and signed at most 99999. -/
theorem sle_last {w : BitVec 32} (h : w.toNat < 100000) : IntOp.cmpi .sle w 99999#32 = 1#1 := by
  have : BitVec.sle w 99999#32 = true := by
    simp only [BitVec.sle_eq_decide, decide_eq_true_eq, BitVec.toInt_eq_toNat_cond, BitVec.toNat_ofNat, Nat.reducePow, Nat.reduceMod]
    omega
  show BitVec.ofBool (BitVec.sle w 99999#32) = _
  rw [this]; rfl

/-- The words the reference looks rows up by: each index, wrapped when negative, as a column. -/
def words (x : S1024x20.Idx → BitVec 32) : S1024x20x1.Idx → BitVec 32 :=
  broadcastInDim S1024x20x1 ![0, 1] bcast_S1024x20_S1024x20x1_0_1 (select (cmpi .slt x (broadcastInDim S1024x20 ![] bcast_S_S1024x20 (constantI S_ 32 0#32))) (addi x (broadcastInDim S1024x20 ![] bcast_S_S1024x20 (constantI S_ 32 100000#32))) x)

/-- Under the bound they are the indices. -/
theorem words_at (x : S1024x20.Idx → BitVec 32) (hx : ∀ i, (x i).toNat < 100000) (b : Fin 1024) (s : Fin 20) (u : Fin 1) :
    words x (ix3 b s u) = x (ix2 b s) := by
  pointwise [words, not_neg (hx _)]

/-- The lookup at an entry: the row that the word names, clamped to the table, at its lane. -/
theorem take_at (E : S100000x32.Idx → EReal) (w : S1024x20x1.Idx → BitVec 32) (b : Fin 1024) (s : Fin 20) (l : Fin 32) :
    Host.gather gather_S100000x32_S1024x20x1_S1024x20x32_2_0_n_n_0_2_132 E w (ix3 b s l)
      = E (ix2 (⟨min (w (ix3 b s 0)).toInt.toNat (100000 - 1), by omega⟩ : Fin 100000) l) := by
  let d := gather_S100000x32_S1024x20x1_S1024x20x32_2_0_n_n_0_2_132
  show E (d.operandIdx (ix3 b s l) w) = _
  congr 1
  funext a
  refine Fin.ext ?_
  show d.start (ix3 b s l) w a + d.batchCoord (ix3 b s l) a + d.offCoord (ix3 b s l) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ d.startIndexMap from List.mem_singleton.mpr rfl)]
    have hsi : d.siIdx (ix3 b s l) ⟨List.idxOf (0 : Fin 2) d.startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  · unfold GatherDims.start
    rw [dif_neg (show (1 : Fin 2) ∉ d.startIndexMap by decide), Nat.zero_add]
    unfold GatherDims.offCoord
    rw [dif_pos ((GatherDims.mem_sKept _ _).mpr ⟨by decide, List.not_mem_nil⟩)]
    rfl

/-- The rows looked up, those of words outside the table replaced. -/
def rows (E : S100000x32.Idx → EReal) (w : S1024x20x1.Idx → BitVec 32) : S1024x20x32.Idx → EReal :=
  select (broadcastInDim S1024x20x32 ![0, 1] bcast_S1024x20_S1024x20x32_0_1 (Host.reduce IntOp.andi (andi (cmpi .sge w (broadcastInDim S1024x20x1 ![] bcast_S_S1024x20x1 (constantI S_ 32 0#32))) (cmpi .sle w (broadcastInDim S1024x20x1 ![0, 1, 2] bcast_S1x1x1_S1024x20x1_0_1_2 (broadcastInDim S1x1x1 ![2] bcast_S1_S1x1x1_2 (constantI S1 32 99999#32))))) (constantI S_ 1 1#1) reducesTo_S1024x20x1_S1024x20_d2 h_S_))
    (Host.gather gather_S100000x32_S1024x20x1_S1024x20x32_2_0_n_n_0_2_132 E w)
    (broadcastInDim S1024x20x32 ![] bcast_S_S1024x20x32 (constant (F := Ideal) S_ .f32 0x7FC00000#32))

/-- A choice whose mask is one everywhere is its first operand. -/
theorem select_all (M : S1024x20.Idx → BitVec 1) (A B : S1024x20x32.Idx → EReal) (h : ∀ j, M j = 1#1) (i : S1024x20x32.Idx) :
    select (broadcastInDim S1024x20x32 ![0, 1] bcast_S1024x20_S1024x20x32_0_1 M) A B i = A i := by
  have e : broadcastInDim S1024x20x32 ![0, 1] bcast_S1024x20_S1024x20x32_0_1 M = fun _ => 1#1 := funext fun _ => h _
  rw [e]; rfl

/-- Under the bound none is replaced and none clamped. -/
theorem rows_at (E : S100000x32.Idx → EReal) (x : S1024x20.Idx → BitVec 32) (hx : ∀ i, (x i).toNat < 100000)
    (b : Fin 1024) (s : Fin 20) (l : Fin 32) : rows E (words x) (ix3 b s l) = E (ix2 (rowIx (x (ix2 b s))) l) := by
  have hw : ∀ i, (words x i).toNat < 100000 := fun i => by
    have e : i = ix3 (n0 := 1024) (n1 := 20) (n2 := 1) (i 0) (i 1) (i 2) := by
      funext a; match a with | ⟨0, _⟩ => rfl | ⟨1, _⟩ => rfl | ⟨2, _⟩ => rfl
    rw [e]
    exact lt_of_eq_of_lt (congrArg BitVec.toNat (words_at x hx (i 0) (i 1) (i 2))) (hx _)
  have hs : rows E (words x) (ix3 b s l) = Host.gather gather_S100000x32_S1024x20x1_S1024x20x32_2_0_n_n_0_2_132 E (words x) (ix3 b s l) := by
    refine select_all _ _ _ (fun j => Host.reduce_andi_one _ _ _ _ _ rfl fun i => ?_) _
    show IntOp.andi (IntOp.cmpi .sge (words x i) 0#32) (IntOp.cmpi .sle (words x i) 99999#32) = 1#1
    rw [sge_zero (hw i), sle_last (hw i)]; rfl
  rw [hs, take_at]
  refine congrArg (fun r => E (ix2 r l)) (Fin.ext ?_)
  have h := hx (ix2 b s)
  show min (words x (ix3 b s 0)).toInt.toNat (100000 - 1) = (rowIx (x (ix2 b s))).val
  rw [words_at x hx, rowIx_val h, BitVec.toInt_eq_toNat_of_lt (by omega)]
  simp only [Int.toNat_natCast]
  omega

/-- The reference's hidden layer over the rows. -/
def hid (e : S1024x20x32.Idx → EReal) (W1 : S640x128.Idx → EReal) (b1 : S128.Idx → EReal) : S1024x128.Idx → EReal :=
  maximumf (F := Ideal) (φ := .f32) (addf (F := Ideal) (φ := .f32) (Host.dotGeneral (F := Ideal) (φ₁ := .f32) (φ₂ := .f32) dot_S1024x640_S640x128_S1024x128_1_0_0_1_n_n none (shapeCast _ e shapeCasts_S1024x20x32_S1024x640) W1) (broadcastInDim S1024x128 ![0, 1] bcast_S1x128_S1024x128_0_1 (broadcastInDim S1x128 ![1] bcast_S128_S1x128_1 b1))) (broadcastInDim S1024x128 ![] bcast_S_S1024x128 (constant S_ .f32 0x00000000#32))
/-- The second dense layer over the first. -/
def res (h : S1024x128.Idx → EReal) (W2 : S128x100000.Idx → EReal) (b2 : S100000.Idx → EReal) : S1024x100000.Idx → EReal :=
  addf (F := Ideal) (φ := .f32) (Host.dotGeneral (F := Ideal) (φ₁ := .f32) (φ₂ := .f32) dot_S1024x128_S128x100000_S1024x100000_1_0_0_1_n_n none h W2) (broadcastInDim S1024x100000 ![0, 1] bcast_S1x100000_S1024x100000_0_1 (broadcastInDim S1x100000 ![1] bcast_S100000_S1x100000_1 b2))

/-- An entry of the hidden layer: the row, laid out, against a column of the weights, with the bias, cut at zero. -/
theorem hid_at (e W1 b1) (b : Fin 1024) (j : Fin 128) : hid e W1 b1 (ix2 b j)
    = max ((∑ k : Fin 640, e (ix3 b ⟨k.val / 32, by omega⟩ ⟨k.val % 32, by omega⟩) * W1 (ix2 k j)) + b1 (ix1 j)) 0 := by
  pointwise [hid]

/-- An entry of the result: the hidden layer's row against a column of the weights, with the bias. -/
theorem res_at (h W2 b2) (b : Fin 1024) (v : Fin 100000) : res h W2 b2 (ix2 b v)
    = (∑ k : Fin 128, h (ix2 b k) * W2 (ix2 k v)) + b2 (ix1 v) := by
  pointwise [res]

end Cert.Proof.R

end
-- ==== Proof.Value.lean ====
/-
  THE VALUE at real floats: the two layers read entry by entry, in the kernel and in the reference.
-/
module

public import proofs.«01_k».proof.Proof.RefValue
public import Idealize.ShloMosaic.Lib.Pointwise

@[expose] public section

noncomputable section

namespace Cert.Proof.K

open Cert.KernelIdeal Cert.KernelIdeal.Gen

open Idealize.ShloMosaic
open Idealize.ShloMosaic.TcCoe
open Idealize.SL.Sem

/-! ## The kernel's payloads at an entry -/

/-- The first layer: the product, its bias, the cut at zero, transposed. -/
theorem pay1_at (v0 : Vec Ideal S1024x640 .f32) (v2 : Vec Ideal S640x128 .f32) (v4 : Vec Ideal S1x128 .f32) (j : Fin 128) (b : Fin 1024) :
    k1_pay1 v0 v2 v4 (ix2 j b) = max ((∑ k : Fin 640, v0 (ix2 b k) * v2 (ix2 k j)) + v4 (ix2 0 j)) 0 := by
  pointwise [k1_pay1]

/-- The second layer's block: the product and its bias. -/
theorem pay2_at (v0 : Vec Ideal S4096x128 .f32) (v2 : Vec Ideal S128x1024 .f32) (v5 : Vec Ideal S4096x1 .f32) (p : Fin 4096) (b : Fin 1024) :
    k2_pay1 v0 v2 v5 (ix2 p b) = (∑ k : Fin 128, v0 (ix2 p k) * v2 (ix2 k b)) + v5 (ix2 p 0) := by
  pointwise [k2_pay1]

/-- The gathered rows laid out: entry `32 s + l` of row `b` is lane `l` of the row that word `(b, s)` names. -/
theorem flat_at (x : S1024x20.Idx → BitVec 32) (E : S100000x32.Idx → EReal) (v : S_.Idx → EReal) (b : Fin 1024) (s : Fin 20) (l : Fin 32) (k : Fin 640) (hk : k.val = 32 * s.val + l.val) :
    shapeCast (α := EReal) S1024x640 (extractStridedSlice S20480x32 ![0, 0]
        (gath (F := Ideal) (shapeCast (α := BitVec 32) S20480 x shapeCasts_S1024x20_S20480)
        (pad (α := EReal) S100000x128 ![0, 0] ![0, 96] ![0, 0] E v pads_S100000x32_S100000x128_000_0960 h_S_)) slices_S20480x128_S20480x32_0_0)
        shapeCasts_S20480x32_S1024x640 (ix2 b k) = E (ix2 (rowIx (x (ix2 b s))) l) := by
  pointwise [gath]
  have e1 : k.val % 32 = l.val := by omega
  have e2 : (b.val * 20 + k.val / 32) % 20 = s.val := by omega
  rw [dif_pos (by omega)]
  simp only [e1, e2, Fin.eta]

/-! ## The two results -/

/-- The hidden layer, transposed in the kernel, is the reference's. -/
theorem hid_eq (x : S1024x20.Idx → BitVec 32) (hx : ∀ i, (x i).toNat < 100000) (E : S100000x32.Idx → EReal) (v : S_.Idx → EReal)
    (W1 : S640x128.Idx → EReal) (b1 : S128.Idx → EReal) (j : Fin 128) (b : Fin 1024) :
    k1_pay1 (F := Ideal) (shapeCast (α := EReal) S1024x640 (extractStridedSlice S20480x32 ![0, 0]
        (gath (F := Ideal) (shapeCast (α := BitVec 32) S20480 x shapeCasts_S1024x20_S20480)
          (pad (α := EReal) S100000x128 ![0, 0] ![0, 96] ![0, 0] E v pads_S100000x32_S100000x128_000_0960 h_S_)) slices_S20480x128_S20480x32_0_0)
        shapeCasts_S20480x32_S1024x640) W1 (shapeCast (α := EReal) S1x128 b1 shapeCasts_S128_S1x128) (ix2 j b)
      = R.hid (R.rows E (R.words x)) W1 b1 (ix2 b j) := by
  have hb : shapeCast (α := EReal) S1x128 b1 shapeCasts_S128_S1x128 (ix2 0 j) = b1 (ix1 j) := by pointwise
  rw [pay1_at, R.hid_at, hb]
  refine congrArg (fun t => max (t + b1 (ix1 j)) 0) (Finset.sum_congr rfl fun k _ => ?_)
  rw [R.rows_at E x hx, flat_at x E v b ⟨k.val / 32, by omega⟩ ⟨k.val % 32, by omega⟩ k (by simp only []; omega)]

/-- An entry of the second layer, whatever the blocks it was computed in. -/
theorem out_at (H : S128x1024.Idx → EReal) (W2 : S128x100000.Idx → EReal) (b2 : S100000.Idx → EReal) (G : S100000x1024.Idx → EReal)
    (hG : Rel2 (F := Ideal) H (transpose (α := EReal) S100000x128 [1, 0] W2 transposes_S128x100000_S100000x128_1_0)
      (shapeCast (α := EReal) S100000x1 b2 shapeCasts_S100000_S100000x1) G) (v : Fin 100000) (b : Fin 1024) :
    G (ix2 v b) = (∑ k : Fin 128, W2 (ix2 k v) * H (ix2 k b)) + b2 (ix1 v) := by
  have hv : v.val / 4096 * 4096 + (⟨v.val % 4096, by omega⟩ : Fin 4096).val < 100000 := by simp only []; omega
  have ev : (⟨v.val / 4096 * 4096 + (⟨v.val % 4096, by omega⟩ : Fin 4096).val, hv⟩ : Fin 100000) = v := Fin.ext (by simp only []; omega)
  obtain ⟨X, ⟨B, C, hB, hC, rfl⟩, hX⟩ := hG (v.val / 4096) ⟨v.val % 4096, by omega⟩ b hv
  have hB' := fun k => hB ⟨v.val % 4096, by omega⟩ k hv
  have hC' := hC ⟨v.val % 4096, by omega⟩ 0 hv
  rw [ev] at hX hC'
  simp only [ev] at hB'
  have ht : ∀ k : Fin 128, transpose (α := EReal) S100000x128 [1, 0] W2 transposes_S128x100000_S100000x128_1_0 (ix2 v k) = W2 (ix2 k v) := fun k => by pointwise
  have hs : shapeCast (α := EReal) S100000x1 b2 shapeCasts_S100000_S100000x1 (ix2 v 0) = b2 (ix1 v) := by pointwise
  rw [hX, pay2_at, hC', hs]
  refine congrArg (· + b2 (ix1 v)) (Finset.sum_congr rfl fun k _ => ?_)
  rw [hB', ht]

/-- THE VALUE: what the kernel returns is the reference's result. -/
theorem out_eq (W : Valuation τ sig (Elt Ideal)) (G : S100000x1024.Idx → EReal)
    (hx : ∀ i, ((W (Proc.devRef .tc main_arg0) : S1024x20.Idx → BitVec 32) i).toNat < 100000)
    (hG : Rel2 (F := Ideal) (Ve W (Proc.devRef .tc main_v6)) (Ve W (Proc.devRef .tc main_v7)) (Ve W (Proc.devRef .tc main_v8)) G) :
    (Vf W G (Proc.devRef .tc main_v10) : S1024x100000.Idx → EReal)
      = R.res (R.hid (R.rows (W (Proc.devRef .tc main_arg1)) (R.words (W (Proc.devRef .tc main_arg0)))) (W (Proc.devRef .tc main_arg2)) (W (Proc.devRef .tc main_arg3)))
          (W (Proc.devRef .tc main_arg4)) (W (Proc.devRef .tc main_arg5)) := by
  rw [Ve_v7, Ve_v8] at hG
  have hH : ∀ (k : Fin 128) (b : Fin 1024), (Ve W (Proc.devRef .tc main_v6) : S128x1024.Idx → EReal) (ix2 k b)
      = R.hid (R.rows (W (Proc.devRef .tc main_arg1)) (R.words (W (Proc.devRef .tc main_arg0)))) (W (Proc.devRef .tc main_arg2)) (W (Proc.devRef .tc main_arg3)) (ix2 b k) := by
    intro k b
    rw [Ve_v6, out1, Vc_v4, Vc_v5, Vc_arg2, Va_v0, Va_v1]
    exact hid_eq _ hx _ _ _ _ k b
  rw [Vf_v10]
  funext i
  have e : i = ix2 (n0 := 1024) (n1 := 100000) (i 0) (i 1) := by
    funext a; match a with | ⟨0, _⟩ => rfl | ⟨1, _⟩ => rfl
  rw [e]
  refine Eq.trans (b := G (ix2 (n0 := 100000) (n1 := 1024) (i 1) (i 0))) (by pointwise) ?_
  refine (out_at _ _ _ G hG (i 1) (i 0)).trans (Eq.trans ?_ (R.res_at _ _ _ (i 0) (i 1)).symm)
  refine congrArg (· + _) (Finset.sum_congr rfl fun k _ => ?_)
  rw [hH k (i 0)]
  exact mul_comm _ _

end Cert.Proof.K

end
-- ==== Proof.Algebraic.lean ====
/-
  THE ALGEBRAIC CLAIM: over real floats, and indices within the table, the kernel and the reference return the same array.
-/
module

public import proofs.«01_k».proof.Proof.Value

@[expose] public section

noncomputable section

namespace Cert.Proof.K

open Idealize.ShloMosaic
open Idealize.ShloMosaic.TcCoe
open Idealize.SL.Sem

/-- What both programs return: the two dense layers over the rows that the indices name. -/
def out (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v10) :=
  R.res (R.hid (R.rows (m ((c.tc : Thread Cert.KernelIdeal.nD Cert.KernelIdeal.τ).loc Cert.KernelIdeal.main_arg1))
      (R.words (m ((c.tc : Thread Cert.KernelIdeal.nD Cert.KernelIdeal.τ).loc Cert.KernelIdeal.main_arg0))))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The two runs end in it. -/
theorem algebraic : Cert.algebraic_KernelIdeal_ReferenceIdeal := fun m g m' g' hpre hin => by
  have hx : ∀ (d : Dev Cert.KernelIdeal.nD) (i : Cert.KernelIdeal.S1024x20.Idx),
      ((m ((d.tc : Thread Cert.KernelIdeal.nD Cert.KernelIdeal.τ).loc Cert.KernelIdeal.main_arg0) : Cert.KernelIdeal.S1024x20.Idx → BitVec 32) i).toNat < 100000 :=
    fun d i => lt_of_pre (F := Ideal) _ _ _ _ _ _ (hpre d) i
  refine ⟨out m, ?_, ?_⟩
  · refine (θ_run _ _ _).mono (fun r h c => ?_) (run_all m g (pre_ok m hx))
    obtain ⟨G, hG, hb⟩ := h.1 c
    have hm := fun (r : Ref Cert.KernelIdeal.sig .tc) (hr : r.isScoped = false) => hb ⟨Proc.devRef .tc r, Pipeline.devRef_mem_ucRefs hr⟩
    exact ⟨(hm Cert.KernelIdeal.main_v10 (by decide)).trans (out_eq (W0 m c) G (hx c) hG),
      (hm Cert.KernelIdeal.main_arg0 (by decide)).trans (Vf_arg0 _ G), (hm Cert.KernelIdeal.main_arg1 (by decide)).trans (Vf_arg1 _ G),
      (hm Cert.KernelIdeal.main_arg2 (by decide)).trans (Vf_arg2 _ G), (hm Cert.KernelIdeal.main_arg3 (by decide)).trans (Vf_arg3 _ G),
      (hm Cert.KernelIdeal.main_arg4 (by decide)).trans (Vf_arg4 _ G), (hm Cert.KernelIdeal.main_arg5 (by decide)).trans (Vf_arg5 _ G)⟩
  · refine (θ_run _ _ _).mono (fun r h c => ⟨(h c).1.trans ?_, (h c).2⟩) (Cert.ReferenceIdeal.Value.run m' g')
    obtain ⟨h0, h1, h2, h3, h4, h5⟩ := hin c
    unfold out
    rw [← h0, ← h1, ← h2, ← h3, ← h4, ← h5]
    rfl

end Cert.Proof.K

end
-- ==== Proof.lean ====
/- The certificate: the programs' side conditions, the frames of the kernel and of the reference (Proof/Frames.lean), and the
   equality of their results over real floats (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

/-- Every claim: the two kernels' frames, the reference's, with and without the precondition, no rewrite to be preserved, and the
    equality of the results. -/
theorem claim : Cert.Claim := ⟨Cert.Kernel.Gen.facts, Cert.KernelIdeal.Gen.facts, Cert.ReferenceIdeal.Gen.facts, Cert.Pre_in_range.Gen.facts,
  K.frame_kernel, K.frame_ideal, K.frame_ref, K.frame_ref_pre, trivial, K.algebraic⟩

end Cert.Proof

end
